-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S1 : Shape := ⟨1, ![1]⟩
abbrev S32 : Shape := ⟨1, ![32]⟩
abbrev S_ : Shape := ⟨0, ![]⟩
abbrev S16 : Shape := ⟨1, ![16]⟩
abbrev S16x1 : Shape := ⟨2, ![16, 1]⟩
abbrev S15 : Shape := ⟨1, ![15]⟩
abbrev S15x1 : Shape := ⟨2, ![15, 1]⟩
abbrev S16x128x4096 : Shape := ⟨3, ![16, 128, 4096]⟩
abbrev S15x128x4096 : Shape := ⟨3, ![15, 128, 4096]⟩
abbrev S1x128x4096 : Shape := ⟨3, ![1, 128, 4096]⟩
abbrev S128x256 : Shape := ⟨2, ![128, 256]⟩

abbrev nBuf : Space → Nat
  | .hbm => 146
  | .vmem => 5
  | .smem => 6
  | _ => 0

abbrev hbmTy0_0 (i : Nat) : BufTy := match i % 128 with
  | 0 => ⟨S128x4096, .fp8e4m3⟩
  | 1 => ⟨S4096x256, .fp8e4m3⟩
  | 2 => ⟨S1, .f32⟩
  | 3 => ⟨S1, .f32⟩
  | 4 => ⟨S32, .i32⟩
  | 5 => ⟨S32, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i1⟩
  | 32 => ⟨S_, .i32⟩
  | 33 => ⟨S_, .i1⟩
  | 34 => ⟨S_, .i1⟩
  | 35 => ⟨S_, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S1, .i32⟩
  | 44 => ⟨S_, .i32⟩
  | 45 => ⟨S1, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i1⟩
  | 59 => ⟨S_, .i32⟩
  | 60 => ⟨S_, .i1⟩
  | 61 => ⟨S_, .i1⟩
  | 62 => ⟨S_, .i1⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S1, .i32⟩
  | 71 => ⟨S_, .i32⟩
  | 72 => ⟨S1, .i32⟩
  | 73 => ⟨S_, .i32⟩
  | 74 => ⟨S_, .i32⟩
  | 75 => ⟨S16, .i32⟩
  | 76 => ⟨S16, .i32⟩
  | 77 => ⟨S16, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S16, .i32⟩
  | 85 => ⟨S16, .i32⟩
  | 86 => ⟨S_, .i32⟩
  | 87 => ⟨S16, .i32⟩
  | 88 => ⟨S16, .i1⟩
  | 89 => ⟨S_, .i32⟩
  | 90 => ⟨S16, .i32⟩
  | 91 => ⟨S16, .i1⟩
  | 92 => ⟨S_, .i32⟩
  | 93 => ⟨S_, .i1⟩
  | 94 => ⟨S16, .i1⟩
  | 95 => ⟨S16, .i1⟩
  | 96 => ⟨S16, .i1⟩
  | 97 => ⟨S16, .i32⟩
  | 98 => ⟨S16, .i32⟩
  | 99 => ⟨S16, .i32⟩
  | 100 => ⟨S_, .i32⟩
  | 101 => ⟨S16, .i32⟩
  | 102 => ⟨S16, .i1⟩
  | 103 => ⟨S_, .i32⟩
  | 104 => ⟨S16, .i32⟩
  | 105 => ⟨S16, .i32⟩
  | 106 => ⟨S16, .i32⟩
  | 107 => ⟨S16x1, .i32⟩
  | 108 => ⟨S16, .i32⟩
  | 109 => ⟨S_, .i32⟩
  | 110 => ⟨S_, .i32⟩
  | 111 => ⟨S15, .i32⟩
  | 112 => ⟨S15, .i32⟩
  | 113 => ⟨S15, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S15, .i32⟩
  | 121 => ⟨S15, .i32⟩
  | 122 => ⟨S_, .i32⟩
  | 123 => ⟨S15, .i32⟩
  | 124 => ⟨S15, .i1⟩
  | 125 => ⟨S_, .i32⟩
  | 126 => ⟨S15, .i32⟩
  | 127 => ⟨S15, .i1⟩
  | _ => ⟨S128x4096, .fp8e4m3⟩

abbrev hbmTy0_1 (i : Nat) : BufTy := match i % 128 with
  | 0 => ⟨S_, .i32⟩
  | 1 => ⟨S_, .i1⟩
  | 2 => ⟨S15, .i1⟩
  | 3 => ⟨S15, .i1⟩
  | 4 => ⟨S15, .i1⟩
  | 5 => ⟨S15, .i32⟩
  | 6 => ⟨S15, .i32⟩
  | 7 => ⟨S15, .i32⟩
  | 8 => ⟨S_, .i32⟩
  | 9 => ⟨S15, .i32⟩
  | 10 => ⟨S15, .i1⟩
  | 11 => ⟨S_, .i32⟩
  | 12 => ⟨S15, .i32⟩
  | 13 => ⟨S15, .i32⟩
  | 14 => ⟨S15, .i32⟩
  | 15 => ⟨S15x1, .i32⟩
  | 16 => ⟨S15, .i32⟩
  | 17 => ⟨S4096x256, .f32⟩
  | _ => ⟨S128x4096, .fp8e4m3⟩

abbrev hbmTy (i : Nat) : BufTy := match i / 128 with
  | 0 => hbmTy0_0 i
  | 1 => hbmTy0_1 i
  | _ => ⟨S128x4096, .fp8e4m3⟩

abbrev bufTy : (tb : Table) → Fin (tcTables nBuf tb) → BufTy
  | .hbm, ⟨i, _⟩ => hbmTy i
  | .local _ .vmem, ⟨0, _⟩ => ⟨S128x4096, .fp8e4m3⟩
  | .local _ .vmem, ⟨1, _⟩ => ⟨S4096x256, .fp8e4m3⟩
  | .local _ .vmem, ⟨2, _⟩ => ⟨S4096x256, .f32⟩
  | .local _ .vmem, ⟨3, _⟩ => ⟨S16x128x4096, .fp8e4m3⟩
  | .local _ .vmem, ⟨4, _⟩ => ⟨S15x128x4096, .fp8e4m3⟩
  | .local _ .smem, ⟨0, _⟩ => ⟨S1, .f32⟩
  | .local _ .smem, ⟨1, _⟩ => ⟨S1, .f32⟩
  | .local _ .smem, ⟨2, _⟩ => ⟨S1, .i32⟩
  | .local _ .smem, ⟨3, _⟩ => ⟨S1, .i32⟩
  | .local _ .smem, ⟨4, _⟩ => ⟨S16, .i32⟩
  | .local _ .smem, ⟨5, _⟩ => ⟨S15, .i32⟩
  | _, _ => ⟨S128x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_5 : Ref sig .tc := ⟨.hbm, 19, rfl⟩
abbrev main_v10 : Ref sig .tc := ⟨.hbm, 20, rfl⟩
abbrev main_c_6 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_c_1 : Ref sig .tc := ⟨.hbm, 28, rfl⟩
abbrev main_call0_v4 : Ref sig .tc := ⟨.hbm, 29, rfl⟩
abbrev main_call0_c_2 : Ref sig .tc := ⟨.hbm, 30, rfl⟩
abbrev main_call0_v5 : Ref sig .tc := ⟨.hbm, 31, rfl⟩
abbrev main_call0_c_3 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_v11 : Ref sig .tc := ⟨.hbm, 37, rfl⟩
abbrev main_c_7 : Ref sig .tc := ⟨.hbm, 38, rfl⟩
abbrev main_v12 : Ref sig .tc := ⟨.hbm, 39, rfl⟩
abbrev main_c_8 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_9 : Ref sig .tc := ⟨.hbm, 46, rfl⟩
abbrev main_v18 : Ref sig .tc := ⟨.hbm, 47, rfl⟩
abbrev main_c_10 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_c_1 : Ref sig .tc := ⟨.hbm, 55, rfl⟩
abbrev main_call1_v4 : Ref sig .tc := ⟨.hbm, 56, rfl⟩
abbrev main_call1_c_2 : Ref sig .tc := ⟨.hbm, 57, rfl⟩
abbrev main_call1_v5 : Ref sig .tc := ⟨.hbm, 58, rfl⟩
abbrev main_call1_c_3 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_v19 : Ref sig .tc := ⟨.hbm, 64, rfl⟩
abbrev main_c_11 : Ref sig .tc := ⟨.hbm, 65, rfl⟩
abbrev main_v20 : Ref sig .tc := ⟨.hbm, 66, rfl⟩
abbrev main_c_12 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_c_13 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_14 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_v5 : Ref sig .tc := ⟨.hbm, 87, rfl⟩
abbrev main_call2_v6 : Ref sig .tc := ⟨.hbm, 88, rfl⟩
abbrev main_call2_c_2 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_v30 : Ref sig .tc := ⟨.hbm, 99, rfl⟩
abbrev main_c_15 : Ref sig .tc := ⟨.hbm, 100, rfl⟩
abbrev main_v31 : Ref sig .tc := ⟨.hbm, 101, rfl⟩
abbrev main_v32 : Ref sig .tc := ⟨.hbm, 102, rfl⟩
abbrev main_c_16 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_c_17 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_c_18 : Ref sig .tc := ⟨.hbm, 114, rfl⟩
abbrev main_call3_v0 : Ref sig .tc := ⟨.hbm, 115, rfl⟩
abbrev main_call3_c : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_c_1 : Ref sig .tc := ⟨.hbm, 122, rfl⟩
abbrev main_call3_v5 : Ref sig .tc := ⟨.hbm, 123, rfl⟩
abbrev main_call3_v6 : Ref sig .tc := ⟨.hbm, 124, rfl⟩
abbrev main_call3_c_2 : Ref sig .tc := ⟨.hbm, 125, rfl⟩
abbrev main_call3_v7 : Ref sig .tc := ⟨.hbm, 126, rfl⟩
abbrev main_call3_v8 : Ref sig .tc := ⟨.hbm, 127, rfl⟩
abbrev main_call3_c_3 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_v42 : Ref sig .tc := ⟨.hbm, 135, rfl⟩
abbrev main_c_19 : Ref sig .tc := ⟨.hbm, 136, rfl⟩
abbrev main_v43 : Ref sig .tc := ⟨.hbm, 137, rfl⟩
abbrev main_v44 : Ref sig .tc := ⟨.hbm, 138, rfl⟩
abbrev main_c_20 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev cc0_stg0_0 : Ref sig .tc := ⟨.vmem, 0, rfl⟩
abbrev cc0_stg1_0 : Ref sig .tc := ⟨.vmem, 1, rfl⟩
abbrev cc0_stg8_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_stg6_0 : Ref sig .tc := ⟨.smem, 4, rfl⟩
abbrev cc0_stg7_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 32
abbrev τ : Topo := Topo.v7x

variable {F : FTy → Type} [FloatOps F]

abbrev grid0 : Pipeline.Grid := .none

def k0_dev1 (v3 : BitVec 32) : Nat :=
  let c0_i32 : BitVec 32 := 0#32
  let c1_i32_4 : BitVec 32 := 1#32
  let v9 : BitVec 32 := Scalar.muli v3 c1_i32_4
  let v10 : BitVec 32 := Scalar.addi c0_i32 v9
  v10.toNat

def k0_dev2 (v4 : BitVec 32) : Nat :=
  let c0_i32_7 : BitVec 32 := 0#32
  let c1_i32_6 : BitVec 32 := 1#32
  let v11 : BitVec 32 := Scalar.muli v4 c1_i32_6
  let v12 : BitVec 32 := Scalar.addi c0_i32_7 v11
  v12.toNat

def k0_dev3 (v4 : BitVec 32) : Nat :=
  let c0_i32_12 : BitVec 32 := 0#32
  let c1_i32_11 : BitVec 32 := 1#32
  let v13 : BitVec 32 := Scalar.muli v4 c1_i32_11
  let v14 : BitVec 32 := Scalar.addi c0_i32_12 v13
  v14.toNat
def k0_dev4 (v3 : BitVec 32) : Nat :=
  let c0_i32_19 : BitVec 32 := 0#32
  let c1_i32_18 : BitVec 32 := 1#32
  let v21 : BitVec 32 := Scalar.muli v3 c1_i32_18
  let v22 : BitVec 32 := Scalar.addi c0_i32_19 v21
  v22.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v36 : BitVec 32 := Scalar.muli v2 c128_i32
  let v37 : Index := Scalar.indexCast v36
  let c0_26 : Index := 0#32
  ![v37.toNat, 0]
def k0_dev5 (v4 : BitVec 32) : Nat :=
  let c0_i32_46 : BitVec 32 := 0#32
  let c1_i32_45 : BitVec 32 := 1#32
  let v51 : BitVec 32 := Scalar.muli v4 c1_i32_45
  let v52 : BitVec 32 := Scalar.addi c0_i32_46 v51
  v52.toNat
def k0_dev6 (v3 : BitVec 32) : Nat :=
  let c0_i32_56 : BitVec 32 := 0#32
  let c1_i32_55 : BitVec 32 := 1#32
  let v61 : BitVec 32 := Scalar.muli v3 c1_i32_55
  let v62 : BitVec 32 := Scalar.addi c0_i32_56 v61
  v62.toNat
def k0_off2 (v73 : BitVec 32) : Fin 2 → Nat :=
  let c128_i32_68 : BitVec 32 := 128#32
  let v79 : BitVec 32 := Scalar.muli v73 c128_i32_68
  let v80 : Index := Scalar.indexCast v79
  let c0_69 : Index := 0#32
  ![v80.toNat, 0]

def k0_chk3 (v73 : BitVec 32) : Prop :=
  (∀ a, (k0_off2 v73) a + S128x256.size a ≤ S4096x256.size a)
theorem k0_off2_inb : ∀ (v73 : BitVec 32) (k0_hw3 : k0_chk3 v73), ∀ a, (k0_off2 v73) a + S128x256.size a ≤ S4096x256.size a := fun v73 k0_hw3 => k0_hw3

def k0_off3 (v84 : BitVec 32) : Fin 2 → Nat :=
  let c128_i32_77 : BitVec 32 := 128#32
  let v90 : BitVec 32 := Scalar.muli v84 c128_i32_77
  let v91 : Index := Scalar.indexCast v90
  let c0_78 : Index := 0#32
  ![v91.toNat, 0]

def k0_chk4 (v84 : BitVec 32) : Prop :=
  (∀ a, (k0_off3 v84) a + S128x256.size a ≤ S4096x256.size a)
theorem k0_off3_inb : ∀ (v84 : BitVec 32) (k0_hw4 : k0_chk4 v84), ∀ a, (k0_off3 v84) a + S128x256.size a ≤ S4096x256.size a := fun v84 k0_hw4 => k0_hw4

def k0_dev7 (v4 : BitVec 32) : Nat :=
  let c0_i32_104 : BitVec 32 := 0#32
  let c1_i32_103 : BitVec 32 := 1#32
  let v109 : BitVec 32 := Scalar.muli v4 c1_i32_103
  let v110 : BitVec 32 := Scalar.addi c0_i32_104 v109
  v110.toNat
def k0_dev8 (v3 : BitVec 32) : Nat :=
  let c0_i32_114 : BitVec 32 := 0#32
  let c1_i32_113 : BitVec 32 := 1#32
  let v119 : BitVec 32 := Scalar.muli v3 c1_i32_113
  let v120 : BitVec 32 := Scalar.addi c0_i32_114 v119
  v120.toNat
def k0_off4 (v131 : BitVec 32) : Fin 2 → Nat :=
  let c128_i32_125 : BitVec 32 := 128#32
  let v137 : BitVec 32 := Scalar.muli v131 c128_i32_125
  let v138 : Index := Scalar.indexCast v137
  let c0_126 : Index := 0#32
  ![v138.toNat, 0]

def k0_chk5 (v131 : BitVec 32) : Prop :=
  (∀ a, (k0_off4 v131) a + S128x256.size a ≤ S4096x256.size a)
theorem k0_off4_inb : ∀ (v131 : BitVec 32) (k0_hw5 : k0_chk5 v131), ∀ a, (k0_off4 v131) a + S128x256.size a ≤ S4096x256.size a := fun v131 k0_hw5 => k0_hw5

def k0_off5 (v142 : BitVec 32) : Fin 2 → Nat :=
  let c128_i32_134 : BitVec 32 := 128#32
  let v148 : BitVec 32 := Scalar.muli v142 c128_i32_134
  let v149 : Index := Scalar.indexCast v148
  let c0_135 : Index := 0#32
  ![v149.toNat, 0]

def k0_chk6 (v142 : BitVec 32) : Prop :=
  (∀ a, (k0_off5 v142) a + S128x256.size a ≤ S4096x256.size a)
theorem k0_off5_inb : ∀ (v142 : BitVec 32) (k0_hw6 : k0_chk6 v142), ∀ a, (k0_off5 v142) a + S128x256.size a ≤ S4096x256.size a := fun v142 k0_hw6 => k0_hw6

def k0_dev9 (v4 : BitVec 32) : Nat :=
  let c0_i32_160 : BitVec 32 := 0#32
  let c1_i32_159 : BitVec 32 := 1#32
  let v167 : BitVec 32 := Scalar.muli v4 c1_i32_159
  let v168 : BitVec 32 := Scalar.addi c0_i32_160 v167
  v168.toNat
def k0_dev10 (v3 : BitVec 32) : Nat :=
  let c0_i32_170 : BitVec 32 := 0#32
  let c1_i32_169 : BitVec 32 := 1#32
  let v177 : BitVec 32 := Scalar.muli v3 c1_i32_169
  let v178 : BitVec 32 := Scalar.addi c0_i32_170 v177
  v178.toNat
def k0_off6 (v189 : BitVec 32) : Fin 2 → Nat :=
  let c128_i32_181 : BitVec 32 := 128#32
  let v195 : BitVec 32 := Scalar.muli v189 c128_i32_181
  let v196 : Index := Scalar.indexCast v195
  let c0_182 : Index := 0#32
  ![v196.toNat, 0]

def k0_chk7 (v189 : BitVec 32) : Prop :=
  (∀ a, (k0_off6 v189) a + S128x256.size a ≤ S4096x256.size a)
theorem k0_off6_inb : ∀ (v189 : BitVec 32) (k0_hw7 : k0_chk7 v189), ∀ a, (k0_off6 v189) a + S128x256.size a ≤ S4096x256.size a := fun v189 k0_hw7 => k0_hw7

def k0_off7 (v200 : BitVec 32) : Fin 2 → Nat :=
  let c128_i32_190 : BitVec 32 := 128#32
  let v206 : BitVec 32 := Scalar.muli v200 c128_i32_190
  let v207 : Index := Scalar.indexCast v206
  let c0_191 : Index := 0#32
  ![v207.toNat, 0]

def k0_chk8 (v200 : BitVec 32) : Prop :=
  (∀ a, (k0_off7 v200) a + S128x256.size a ≤ S4096x256.size a)
theorem k0_off7_inb : ∀ (v200 : BitVec 32) (k0_hw8 : k0_chk8 v200), ∀ a, (k0_off7 v200) a + S128x256.size a ≤ S4096x256.size a := fun v200 k0_hw8 => k0_hw8

def k0_dev11 (v4 : BitVec 32) : Nat :=
  let c0_i32_216 : BitVec 32 := 0#32
  let c1_i32_215 : BitVec 32 := 1#32
  let v225 : BitVec 32 := Scalar.muli v4 c1_i32_215
  let v226 : BitVec 32 := Scalar.addi c0_i32_216 v225
  v226.toNat
def k0_dev12 (v3 : BitVec 32) : Nat :=
  let c0_i32_226 : BitVec 32 := 0#32
  let c1_i32_225 : BitVec 32 := 1#32
  let v235 : BitVec 32 := Scalar.muli v3 c1_i32_225
  let v236 : BitVec 32 := Scalar.addi c0_i32_226 v235
  v236.toNat
def k0_off8 (v247 : BitVec 32) : Fin 2 → Nat :=
  let c128_i32_237 : BitVec 32 := 128#32
  let v253 : BitVec 32 := Scalar.muli v247 c128_i32_237
  let v254 : Index := Scalar.indexCast v253
  let c0_238 : Index := 0#32
  ![v254.toNat, 0]

def k0_chk9 (v247 : BitVec 32) : Prop :=
  (∀ a, (k0_off8 v247) a + S128x256.size a ≤ S4096x256.size a)
theorem k0_off8_inb : ∀ (v247 : BitVec 32) (k0_hw9 : k0_chk9 v247), ∀ a, (k0_off8 v247) a + S128x256.size a ≤ S4096x256.size a := fun v247 k0_hw9 => k0_hw9

def k0_off9 (v258 : BitVec 32) : Fin 2 → Nat :=
  let c128_i32_246 : BitVec 32 := 128#32
  let v264 : BitVec 32 := Scalar.muli v258 c128_i32_246
  let v265 : Index := Scalar.indexCast v264
  let c0_247 : Index := 0#32
  ![v265.toNat, 0]

def k0_chk10 (v258 : BitVec 32) : Prop :=
  (∀ a, (k0_off9 v258) a + S128x256.size a ≤ S4096x256.size a)
theorem k0_off9_inb : ∀ (v258 : BitVec 32) (k0_hw10 : k0_chk10 v258), ∀ a, (k0_off9 v258) a + S128x256.size a ≤ S4096x256.size a := fun v258 k0_hw10 => k0_hw10

def k0_dev13 (v4 : BitVec 32) : Nat :=
  let c0_i32_272 : BitVec 32 := 0#32
  let c1_i32_271 : BitVec 32 := 1#32
  let v283 : BitVec 32 := Scalar.muli v4 c1_i32_271
  let v284 : BitVec 32 := Scalar.addi c0_i32_272 v283
  v284.toNat
def k0_dev14 (v3 : BitVec 32) : Nat :=
  let c0_i32_282 : BitVec 32 := 0#32
  let c1_i32_281 : BitVec 32 := 1#32
  let v293 : BitVec 32 := Scalar.muli v3 c1_i32_281
  let v294 : BitVec 32 := Scalar.addi c0_i32_282 v293
  v294.toNat
def k0_off10 (v305 : BitVec 32) : Fin 2 → Nat :=
  let c128_i32_293 : BitVec 32 := 128#32
  let v311 : BitVec 32 := Scalar.muli v305 c128_i32_293
  let v312 : Index := Scalar.indexCast v311
  let c0_294 : Index := 0#32
  ![v312.toNat, 0]

def k0_chk11 (v305 : BitVec 32) : Prop :=
  (∀ a, (k0_off10 v305) a + S128x256.size a ≤ S4096x256.size a)
theorem k0_off10_inb : ∀ (v305 : BitVec 32) (k0_hw11 : k0_chk11 v305), ∀ a, (k0_off10 v305) a + S128x256.size a ≤ S4096x256.size a := fun v305 k0_hw11 => k0_hw11

def k0_off11 (v316 : BitVec 32) : Fin 2 → Nat :=
  let c128_i32_302 : BitVec 32 := 128#32
  let v322 : BitVec 32 := Scalar.muli v316 c128_i32_302
  let v323 : Index := Scalar.indexCast v322
  let c0_303 : Index := 0#32
  ![v323.toNat, 0]

def k0_chk12 (v316 : BitVec 32) : Prop :=
  (∀ a, (k0_off11 v316) a + S128x256.size a ≤ S4096x256.size a)
theorem k0_off11_inb : ∀ (v316 : BitVec 32) (k0_hw12 : k0_chk12 v316), ∀ a, (k0_off11 v316) a + S128x256.size a ≤ S4096x256.size a := fun v316 k0_hw12 => k0_hw12

def k0_dev15 (v4 : BitVec 32) : Nat :=
  let c0_i32_328 : BitVec 32 := 0#32
  let c1_i32_327 : BitVec 32 := 1#32
  let v341 : BitVec 32 := Scalar.muli v4 c1_i32_327
  let v342 : BitVec 32 := Scalar.addi c0_i32_328 v341
  v342.toNat
def k0_dev16 (v3 : BitVec 32) : Nat :=
  let c0_i32_338 : BitVec 32 := 0#32
  let c1_i32_337 : BitVec 32 := 1#32
  let v351 : BitVec 32 := Scalar.muli v3 c1_i32_337
  let v352 : BitVec 32 := Scalar.addi c0_i32_338 v351
  v352.toNat
def k0_off12 (v363 : BitVec 32) : Fin 2 → Nat :=
  let c128_i32_349 : BitVec 32 := 128#32
  let v369 : BitVec 32 := Scalar.muli v363 c128_i32_349
  let v370 : Index := Scalar.indexCast v369
  let c0_350 : Index := 0#32
  ![v370.toNat, 0]

def k0_chk13 (v363 : BitVec 32) : Prop :=
  (∀ a, (k0_off12 v363) a + S128x256.size a ≤ S4096x256.size a)
theorem k0_off12_inb : ∀ (v363 : BitVec 32) (k0_hw13 : k0_chk13 v363), ∀ a, (k0_off12 v363) a + S128x256.size a ≤ S4096x256.size a := fun v363 k0_hw13 => k0_hw13

def k0_off13 (v374 : BitVec 32) : Fin 2 → Nat :=
  let c128_i32_358 : BitVec 32 := 128#32
  let v380 : BitVec 32 := Scalar.muli v374 c128_i32_358
  let v381 : Index := Scalar.indexCast v380
  let c0_359 : Index := 0#32
  ![v381.toNat, 0]

def k0_chk14 (v374 : BitVec 32) : Prop :=
  (∀ a, (k0_off13 v374) a + S128x256.size a ≤ S4096x256.size a)
theorem k0_off13_inb : ∀ (v374 : BitVec 32) (k0_hw14 : k0_chk14 v374), ∀ a, (k0_off13 v374) a + S128x256.size a ≤ S4096x256.size a := fun v374 k0_hw14 => k0_hw14

def k0_dev17 (v4 : BitVec 32) : Nat :=
  let c0_i32_384 : BitVec 32 := 0#32
  let c1_i32_383 : BitVec 32 := 1#32
  let v399 : BitVec 32 := Scalar.muli v4 c1_i32_383
  let v400 : BitVec 32 := Scalar.addi c0_i32_384 v399
  v400.toNat
def k0_dev18 (v3 : BitVec 32) : Nat :=
  let c0_i32_394 : BitVec 32 := 0#32
  let c1_i32_393 : BitVec 32 := 1#32
  let v409 : BitVec 32 := Scalar.muli v3 c1_i32_393
  let v410 : BitVec 32 := Scalar.addi c0_i32_394 v409
  v410.toNat
def k0_off14 (v421 : BitVec 32) : Fin 2 → Nat :=
  let c128_i32_405 : BitVec 32 := 128#32
  let v427 : BitVec 32 := Scalar.muli v421 c128_i32_405
  let v428 : Index := Scalar.indexCast v427
  let c0_406 : Index := 0#32
  ![v428.toNat, 0]

def k0_chk15 (v421 : BitVec 32) : Prop :=
  (∀ a, (k0_off14 v421) a + S128x256.size a ≤ S4096x256.size a)
theorem k0_off14_inb : ∀ (v421 : BitVec 32) (k0_hw15 : k0_chk15 v421), ∀ a, (k0_off14 v421) a + S128x256.size a ≤ S4096x256.size a := fun v421 k0_hw15 => k0_hw15

def k0_off15 (v432 : BitVec 32) : Fin 2 → Nat :=
  let c128_i32_414 : BitVec 32 := 128#32
  let v438 : BitVec 32 := Scalar.muli v432 c128_i32_414
  let v439 : Index := Scalar.indexCast v438
  let c0_415 : Index := 0#32
  ![v439.toNat, 0]

def k0_chk16 (v432 : BitVec 32) : Prop :=
  (∀ a, (k0_off15 v432) a + S128x256.size a ≤ S4096x256.size a)
theorem k0_off15_inb : ∀ (v432 : BitVec 32) (k0_hw16 : k0_chk16 v432), ∀ a, (k0_off15 v432) a + S128x256.size a ≤ S4096x256.size a := fun v432 k0_hw16 => k0_hw16

def k0_dev19 (v4 : BitVec 32) : Nat :=
  let c0_i32_440 : BitVec 32 := 0#32
  let c1_i32_439 : BitVec 32 := 1#32
  let v457 : BitVec 32 := Scalar.muli v4 c1_i32_439
  let v458 : BitVec 32 := Scalar.addi c0_i32_440 v457
  v458.toNat
def k0_dev20 (v3 : BitVec 32) : Nat :=
  let c0_i32_450 : BitVec 32 := 0#32
  let c1_i32_449 : BitVec 32 := 1#32
  let v467 : BitVec 32 := Scalar.muli v3 c1_i32_449
  let v468 : BitVec 32 := Scalar.addi c0_i32_450 v467
  v468.toNat
def k0_off16 (v479 : BitVec 32) : Fin 2 → Nat :=
  let c128_i32_461 : BitVec 32 := 128#32
  let v485 : BitVec 32 := Scalar.muli v479 c128_i32_461
  let v486 : Index := Scalar.indexCast v485
  let c0_462 : Index := 0#32
  ![v486.toNat, 0]

def k0_chk17 (v479 : BitVec 32) : Prop :=
  (∀ a, (k0_off16 v479) a + S128x256.size a ≤ S4096x256.size a)
theorem k0_off16_inb : ∀ (v479 : BitVec 32) (k0_hw17 : k0_chk17 v479), ∀ a, (k0_off16 v479) a + S128x256.size a ≤ S4096x256.size a := fun v479 k0_hw17 => k0_hw17

def k0_off17 (v490 : BitVec 32) : Fin 2 → Nat :=
  let c128_i32_470 : BitVec 32 := 128#32
  let v496 : BitVec 32 := Scalar.muli v490 c128_i32_470
  let v497 : Index := Scalar.indexCast v496
  let c0_471 : Index := 0#32
  ![v497.toNat, 0]

def k0_chk18 (v490 : BitVec 32) : Prop :=
  (∀ a, (k0_off17 v490) a + S128x256.size a ≤ S4096x256.size a)
theorem k0_off17_inb : ∀ (v490 : BitVec 32) (k0_hw18 : k0_chk18 v490), ∀ a, (k0_off17 v490) a + S128x256.size a ≤ S4096x256.size a := fun v490 k0_hw18 => k0_hw18

def k0_dev21 (v4 : BitVec 32) : Nat :=
  let c0_i32_496 : BitVec 32 := 0#32
  let c1_i32_495 : BitVec 32 := 1#32
  let v515 : BitVec 32 := Scalar.muli v4 c1_i32_495
  let v516 : BitVec 32 := Scalar.addi c0_i32_496 v515
  v516.toNat
def k0_dev22 (v3 : BitVec 32) : Nat :=
  let c0_i32_506 : BitVec 32 := 0#32
  let c1_i32_505 : BitVec 32 := 1#32
  let v525 : BitVec 32 := Scalar.muli v3 c1_i32_505
  let v526 : BitVec 32 := Scalar.addi c0_i32_506 v525
  v526.toNat
def k0_off18 (v537 : BitVec 32) : Fin 2 → Nat :=
  let c128_i32_517 : BitVec 32 := 128#32
  let v543 : BitVec 32 := Scalar.muli v537 c128_i32_517
  let v544 : Index := Scalar.indexCast v543
  let c0_518 : Index := 0#32
  ![v544.toNat, 0]

def k0_chk19 (v537 : BitVec 32) : Prop :=
  (∀ a, (k0_off18 v537) a + S128x256.size a ≤ S4096x256.size a)
theorem k0_off18_inb : ∀ (v537 : BitVec 32) (k0_hw19 : k0_chk19 v537), ∀ a, (k0_off18 v537) a + S128x256.size a ≤ S4096x256.size a := fun v537 k0_hw19 => k0_hw19

def k0_off19 (v548 : BitVec 32) : Fin 2 → Nat :=
  let c128_i32_526 : BitVec 32 := 128#32
  let v554 : BitVec 32 := Scalar.muli v548 c128_i32_526
  let v555 : Index := Scalar.indexCast v554
  let c0_527 : Index := 0#32
  ![v555.toNat, 0]

def k0_chk20 (v548 : BitVec 32) : Prop :=
  (∀ a, (k0_off19 v548) a + S128x256.size a ≤ S4096x256.size a)
theorem k0_off19_inb : ∀ (v548 : BitVec 32) (k0_hw20 : k0_chk20 v548), ∀ a, (k0_off19 v548) a + S128x256.size a ≤ S4096x256.size a := fun v548 k0_hw20 => k0_hw20

def k0_dev23 (v4 : BitVec 32) : Nat :=
  let c0_i32_552 : BitVec 32 := 0#32
  let c1_i32_551 : BitVec 32 := 1#32
  let v573 : BitVec 32 := Scalar.muli v4 c1_i32_551
  let v574 : BitVec 32 := Scalar.addi c0_i32_552 v573
  v574.toNat
def k0_dev24 (v3 : BitVec 32) : Nat :=
  let c0_i32_562 : BitVec 32 := 0#32
  let c1_i32_561 : BitVec 32 := 1#32
  let v583 : BitVec 32 := Scalar.muli v3 c1_i32_561
  let v584 : BitVec 32 := Scalar.addi c0_i32_562 v583
  v584.toNat
def k0_off20 (v595 : BitVec 32) : Fin 2 → Nat :=
  let c128_i32_573 : BitVec 32 := 128#32
  let v601 : BitVec 32 := Scalar.muli v595 c128_i32_573
  let v602 : Index := Scalar.indexCast v601
  let c0_574 : Index := 0#32
  ![v602.toNat, 0]

def k0_chk21 (v595 : BitVec 32) : Prop :=
  (∀ a, (k0_off20 v595) a + S128x256.size a ≤ S4096x256.size a)
theorem k0_off20_inb : ∀ (v595 : BitVec 32) (k0_hw21 : k0_chk21 v595), ∀ a, (k0_off20 v595) a + S128x256.size a ≤ S4096x256.size a := fun v595 k0_hw21 => k0_hw21

def k0_off21 (v606 : BitVec 32) : Fin 2 → Nat :=
  let c128_i32_582 : BitVec 32 := 128#32
  let v612 : BitVec 32 := Scalar.muli v606 c128_i32_582
  let v613 : Index := Scalar.indexCast v612
  let c0_583 : Index := 0#32
  ![v613.toNat, 0]

def k0_chk22 (v606 : BitVec 32) : Prop :=
  (∀ a, (k0_off21 v606) a + S128x256.size a ≤ S4096x256.size a)
theorem k0_off21_inb : ∀ (v606 : BitVec 32) (k0_hw22 : k0_chk22 v606), ∀ a, (k0_off21 v606) a + S128x256.size a ≤ S4096x256.size a := fun v606 k0_hw22 => k0_hw22

def k0_dev25 (v4 : BitVec 32) : Nat :=
  let c0_i32_608 : BitVec 32 := 0#32
  let c1_i32_607 : BitVec 32 := 1#32
  let v631 : BitVec 32 := Scalar.muli v4 c1_i32_607
  let v632 : BitVec 32 := Scalar.addi c0_i32_608 v631
  v632.toNat
def k0_dev26 (v3 : BitVec 32) : Nat :=
  let c0_i32_618 : BitVec 32 := 0#32
  let c1_i32_617 : BitVec 32 := 1#32
  let v641 : BitVec 32 := Scalar.muli v3 c1_i32_617
  let v642 : BitVec 32 := Scalar.addi c0_i32_618 v641
  v642.toNat
def k0_off22 (v653 : BitVec 32) : Fin 2 → Nat :=
  let c128_i32_629 : BitVec 32 := 128#32
  let v659 : BitVec 32 := Scalar.muli v653 c128_i32_629
  let v660 : Index := Scalar.indexCast v659
  let c0_630 : Index := 0#32
  ![v660.toNat, 0]

def k0_chk23 (v653 : BitVec 32) : Prop :=
  (∀ a, (k0_off22 v653) a + S128x256.size a ≤ S4096x256.size a)
theorem k0_off22_inb : ∀ (v653 : BitVec 32) (k0_hw23 : k0_chk23 v653), ∀ a, (k0_off22 v653) a + S128x256.size a ≤ S4096x256.size a := fun v653 k0_hw23 => k0_hw23

def k0_off23 (v664 : BitVec 32) : Fin 2 → Nat :=
  let c128_i32_638 : BitVec 32 := 128#32
  let v670 : BitVec 32 := Scalar.muli v664 c128_i32_638
  let v671 : Index := Scalar.indexCast v670
  let c0_639 : Index := 0#32
  ![v671.toNat, 0]

def k0_chk24 (v664 : BitVec 32) : Prop :=
  (∀ a, (k0_off23 v664) a + S128x256.size a ≤ S4096x256.size a)
theorem k0_off23_inb : ∀ (v664 : BitVec 32) (k0_hw24 : k0_chk24 v664), ∀ a, (k0_off23 v664) a + S128x256.size a ≤ S4096x256.size a := fun v664 k0_hw24 => k0_hw24

def k0_dev27 (v4 : BitVec 32) : Nat :=
  let c0_i32_664 : BitVec 32 := 0#32
  let c1_i32_663 : BitVec 32 := 1#32
  let v689 : BitVec 32 := Scalar.muli v4 c1_i32_663
  let v690 : BitVec 32 := Scalar.addi c0_i32_664 v689
  v690.toNat
def k0_dev28 (v3 : BitVec 32) : Nat :=
  let c0_i32_674 : BitVec 32 := 0#32
  let c1_i32_673 : BitVec 32 := 1#32
  let v699 : BitVec 32 := Scalar.muli v3 c1_i32_673
  let v700 : BitVec 32 := Scalar.addi c0_i32_674 v699
  v700.toNat
def k0_off24 (v711 : BitVec 32) : Fin 2 → Nat :=
  let c128_i32_685 : BitVec 32 := 128#32
  let v717 : BitVec 32 := Scalar.muli v711 c128_i32_685
  let v718 : Index := Scalar.indexCast v717
  let c0_686 : Index := 0#32
  ![v718.toNat, 0]

def k0_chk25 (v711 : BitVec 32) : Prop :=
  (∀ a, (k0_off24 v711) a + S128x256.size a ≤ S4096x256.size a)
theorem k0_off24_inb : ∀ (v711 : BitVec 32) (k0_hw25 : k0_chk25 v711), ∀ a, (k0_off24 v711) a + S128x256.size a ≤ S4096x256.size a := fun v711 k0_hw25 => k0_hw25

def k0_off25 (v722 : BitVec 32) : Fin 2 → Nat :=
  let c128_i32_694 : BitVec 32 := 128#32
  let v728 : BitVec 32 := Scalar.muli v722 c128_i32_694
  let v729 : Index := Scalar.indexCast v728
  let c0_695 : Index := 0#32
  ![v729.toNat, 0]

def k0_chk26 (v722 : BitVec 32) : Prop :=
  (∀ a, (k0_off25 v722) a + S128x256.size a ≤ S4096x256.size a)
theorem k0_off25_inb : ∀ (v722 : BitVec 32) (k0_hw26 : k0_chk26 v722), ∀ a, (k0_off25 v722) a + S128x256.size a ≤ S4096x256.size a := fun v722 k0_hw26 => k0_hw26

def k0_dev29 (v4 : BitVec 32) : Nat :=
  let c0_i32_720 : BitVec 32 := 0#32
  let c1_i32_719 : BitVec 32 := 1#32
  let v747 : BitVec 32 := Scalar.muli v4 c1_i32_719
  let v748 : BitVec 32 := Scalar.addi c0_i32_720 v747
  v748.toNat
def k0_dev30 (v3 : BitVec 32) : Nat :=
  let c0_i32_730 : BitVec 32 := 0#32
  let c1_i32_729 : BitVec 32 := 1#32
  let v757 : BitVec 32 := Scalar.muli v3 c1_i32_729
  let v758 : BitVec 32 := Scalar.addi c0_i32_730 v757
  v758.toNat
def k0_off26 (v769 : BitVec 32) : Fin 2 → Nat :=
  let c128_i32_741 : BitVec 32 := 128#32
  let v775 : BitVec 32 := Scalar.muli v769 c128_i32_741
  let v776 : Index := Scalar.indexCast v775
  let c0_742 : Index := 0#32
  ![v776.toNat, 0]

def k0_chk27 (v769 : BitVec 32) : Prop :=
  (∀ a, (k0_off26 v769) a + S128x256.size a ≤ S4096x256.size a)
theorem k0_off26_inb : ∀ (v769 : BitVec 32) (k0_hw27 : k0_chk27 v769), ∀ a, (k0_off26 v769) a + S128x256.size a ≤ S4096x256.size a := fun v769 k0_hw27 => k0_hw27

def k0_off27 (v780 : BitVec 32) : Fin 2 → Nat :=
  let c128_i32_750 : BitVec 32 := 128#32
  let v786 : BitVec 32 := Scalar.muli v780 c128_i32_750
  let v787 : Index := Scalar.indexCast v786
  let c0_751 : Index := 0#32
  ![v787.toNat, 0]

def k0_chk28 (v780 : BitVec 32) : Prop :=
  (∀ a, (k0_off27 v780) a + S128x256.size a ≤ S4096x256.size a)
theorem k0_off27_inb : ∀ (v780 : BitVec 32) (k0_hw28 : k0_chk28 v780), ∀ a, (k0_off27 v780) a + S128x256.size a ≤ S4096x256.size a := fun v780 k0_hw28 => k0_hw28

def k0_dev31 (v4 : BitVec 32) : Nat :=
  let c0_i32_776 : BitVec 32 := 0#32
  let c1_i32_775 : BitVec 32 := 1#32
  let v805 : BitVec 32 := Scalar.muli v4 c1_i32_775
  let v806 : BitVec 32 := Scalar.addi c0_i32_776 v805
  v806.toNat
def k0_dev32 (v3 : BitVec 32) : Nat :=
  let c0_i32_786 : BitVec 32 := 0#32
  let c1_i32_785 : BitVec 32 := 1#32
  let v815 : BitVec 32 := Scalar.muli v3 c1_i32_785
  let v816 : BitVec 32 := Scalar.addi c0_i32_786 v815
  v816.toNat

def k0_chk1 (v3 : BitVec 32) : Prop :=
  ((k0_dev1 v3) < nD) ∧
  ((k0_dev4 v3) < nD) ∧
  ((k0_dev6 v3) < nD) ∧
  ((k0_dev8 v3) < nD) ∧
  ((k0_dev10 v3) < nD) ∧
  ((k0_dev12 v3) < nD) ∧
  ((k0_dev14 v3) < nD) ∧
  ((k0_dev16 v3) < nD) ∧
  ((k0_dev18 v3) < nD) ∧
  ((k0_dev20 v3) < nD) ∧
  ((k0_dev22 v3) < nD) ∧
  ((k0_dev24 v3) < nD) ∧
  ((k0_dev26 v3) < nD) ∧
  ((k0_dev28 v3) < nD) ∧
  ((k0_dev30 v3) < nD) ∧
  ((k0_dev32 v3) < nD)
theorem k0_dev1_lt : ∀ (v3 : BitVec 32) (k0_hw1 : k0_chk1 v3), (k0_dev1 v3) < nD := fun v3 k0_hw1 => k0_hw1.1
theorem k0_dev4_lt : ∀ (v3 : BitVec 32) (k0_hw1 : k0_chk1 v3), (k0_dev4 v3) < nD := fun v3 k0_hw1 => k0_hw1.2.1
theorem k0_dev6_lt : ∀ (v3 : BitVec 32) (k0_hw1 : k0_chk1 v3), (k0_dev6 v3) < nD := fun v3 k0_hw1 => k0_hw1.2.2.1
theorem k0_dev8_lt : ∀ (v3 : BitVec 32) (k0_hw1 : k0_chk1 v3), (k0_dev8 v3) < nD := fun v3 k0_hw1 => k0_hw1.2.2.2.1
theorem k0_dev10_lt : ∀ (v3 : BitVec 32) (k0_hw1 : k0_chk1 v3), (k0_dev10 v3) < nD := fun v3 k0_hw1 => k0_hw1.2.2.2.2.1
theorem k0_dev12_lt : ∀ (v3 : BitVec 32) (k0_hw1 : k0_chk1 v3), (k0_dev12 v3) < nD := fun v3 k0_hw1 => k0_hw1.2.2.2.2.2.1
theorem k0_dev14_lt : ∀ (v3 : BitVec 32) (k0_hw1 : k0_chk1 v3), (k0_dev14 v3) < nD := fun v3 k0_hw1 => k0_hw1.2.2.2.2.2.2.1
theorem k0_dev16_lt : ∀ (v3 : BitVec 32) (k0_hw1 : k0_chk1 v3), (k0_dev16 v3) < nD := fun v3 k0_hw1 => k0_hw1.2.2.2.2.2.2.2.1
theorem k0_dev18_lt : ∀ (v3 : BitVec 32) (k0_hw1 : k0_chk1 v3), (k0_dev18 v3) < nD := fun v3 k0_hw1 => k0_hw1.2.2.2.2.2.2.2.2.1
theorem k0_dev20_lt : ∀ (v3 : BitVec 32) (k0_hw1 : k0_chk1 v3), (k0_dev20 v3) < nD := fun v3 k0_hw1 => k0_hw1.2.2.2.2.2.2.2.2.2.1
theorem k0_dev22_lt : ∀ (v3 : BitVec 32) (k0_hw1 : k0_chk1 v3), (k0_dev22 v3) < nD := fun v3 k0_hw1 => k0_hw1.2.2.2.2.2.2.2.2.2.2.1
theorem k0_dev24_lt : ∀ (v3 : BitVec 32) (k0_hw1 : k0_chk1 v3), (k0_dev24 v3) < nD := fun v3 k0_hw1 => k0_hw1.2.2.2.2.2.2.2.2.2.2.2.1
theorem k0_dev26_lt : ∀ (v3 : BitVec 32) (k0_hw1 : k0_chk1 v3), (k0_dev26 v3) < nD := fun v3 k0_hw1 => k0_hw1.2.2.2.2.2.2.2.2.2.2.2.2.1
theorem k0_dev28_lt : ∀ (v3 : BitVec 32) (k0_hw1 : k0_chk1 v3), (k0_dev28 v3) < nD := fun v3 k0_hw1 => k0_hw1.2.2.2.2.2.2.2.2.2.2.2.2.2.1
theorem k0_dev30_lt : ∀ (v3 : BitVec 32) (k0_hw1 : k0_chk1 v3), (k0_dev30 v3) < nD := fun v3 k0_hw1 => k0_hw1.2.2.2.2.2.2.2.2.2.2.2.2.2.2.1
theorem k0_dev32_lt : ∀ (v3 : BitVec 32) (k0_hw1 : k0_chk1 v3), (k0_dev32 v3) < nD := fun v3 k0_hw1 => k0_hw1.2.2.2.2.2.2.2.2.2.2.2.2.2.2.2

def k0_off28 (v827 : BitVec 32) : Fin 2 → Nat :=
  let c128_i32_797 : BitVec 32 := 128#32
  let v833 : BitVec 32 := Scalar.muli v827 c128_i32_797
  let v834 : Index := Scalar.indexCast v833
  let c0_798 : Index := 0#32
  ![v834.toNat, 0]

def k0_chk29 (v827 : BitVec 32) : Prop :=
  (∀ a, (k0_off28 v827) a + S128x256.size a ≤ S4096x256.size a)
theorem k0_off28_inb : ∀ (v827 : BitVec 32) (k0_hw29 : k0_chk29 v827), ∀ a, (k0_off28 v827) a + S128x256.size a ≤ S4096x256.size a := fun v827 k0_hw29 => k0_hw29

def k0_off29 (v838 : BitVec 32) : Fin 2 → Nat :=
  let c128_i32_806 : BitVec 32 := 128#32
  let v844 : BitVec 32 := Scalar.muli v838 c128_i32_806
  let v845 : Index := Scalar.indexCast v844
  let c0_807 : Index := 0#32
  ![v845.toNat, 0]

def k0_chk30 (v838 : BitVec 32) : Prop :=
  (∀ a, (k0_off29 v838) a + S128x256.size a ≤ S4096x256.size a)
theorem k0_off29_inb : ∀ (v838 : BitVec 32) (k0_hw30 : k0_chk30 v838), ∀ a, (k0_off29 v838) a + S128x256.size a ≤ S4096x256.size a := fun v838 k0_hw30 => k0_hw30

def k0_dev33 (v4 : BitVec 32) : Nat :=
  let c0_i32_832 : BitVec 32 := 0#32
  let c1_i32_831 : BitVec 32 := 1#32
  let v863 : BitVec 32 := Scalar.muli v4 c1_i32_831
  let v864 : BitVec 32 := Scalar.addi c0_i32_832 v863
  v864.toNat

def k0_chk2 (v4 : BitVec 32) : Prop :=
  ((k0_dev2 v4) < nD) ∧
  ((k0_dev3 v4) < nD) ∧
  ((k0_dev5 v4) < nD) ∧
  ((k0_dev7 v4) < nD) ∧
  ((k0_dev9 v4) < nD) ∧
  ((k0_dev11 v4) < nD) ∧
  ((k0_dev13 v4) < nD) ∧
  ((k0_dev15 v4) < nD) ∧
  ((k0_dev17 v4) < nD) ∧
  ((k0_dev19 v4) < nD) ∧
  ((k0_dev21 v4) < nD) ∧
  ((k0_dev23 v4) < nD) ∧
  ((k0_dev25 v4) < nD) ∧
  ((k0_dev27 v4) < nD) ∧
  ((k0_dev29 v4) < nD) ∧
  ((k0_dev31 v4) < nD) ∧
  ((k0_dev33 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev5_lt : ∀ (v4 : BitVec 32) (k0_hw2 : k0_chk2 v4), (k0_dev5 v4) < nD := fun v4 k0_hw2 => k0_hw2.2.2.1
theorem k0_dev7_lt : ∀ (v4 : BitVec 32) (k0_hw2 : k0_chk2 v4), (k0_dev7 v4) < nD := fun v4 k0_hw2 => k0_hw2.2.2.2.1
theorem k0_dev9_lt : ∀ (v4 : BitVec 32) (k0_hw2 : k0_chk2 v4), (k0_dev9 v4) < nD := fun v4 k0_hw2 => k0_hw2.2.2.2.2.1
theorem k0_dev11_lt : ∀ (v4 : BitVec 32) (k0_hw2 : k0_chk2 v4), (k0_dev11 v4) < nD := fun v4 k0_hw2 => k0_hw2.2.2.2.2.2.1
theorem k0_dev13_lt : ∀ (v4 : BitVec 32) (k0_hw2 : k0_chk2 v4), (k0_dev13 v4) < nD := fun v4 k0_hw2 => k0_hw2.2.2.2.2.2.2.1
theorem k0_dev15_lt : ∀ (v4 : BitVec 32) (k0_hw2 : k0_chk2 v4), (k0_dev15 v4) < nD := fun v4 k0_hw2 => k0_hw2.2.2.2.2.2.2.2.1
theorem k0_dev17_lt : ∀ (v4 : BitVec 32) (k0_hw2 : k0_chk2 v4), (k0_dev17 v4) < nD := fun v4 k0_hw2 => k0_hw2.2.2.2.2.2.2.2.2.1
theorem k0_dev19_lt : ∀ (v4 : BitVec 32) (k0_hw2 : k0_chk2 v4), (k0_dev19 v4) < nD := fun v4 k0_hw2 => k0_hw2.2.2.2.2.2.2.2.2.2.1
theorem k0_dev21_lt : ∀ (v4 : BitVec 32) (k0_hw2 : k0_chk2 v4), (k0_dev21 v4) < nD := fun v4 k0_hw2 => k0_hw2.2.2.2.2.2.2.2.2.2.2.1
theorem k0_dev23_lt : ∀ (v4 : BitVec 32) (k0_hw2 : k0_chk2 v4), (k0_dev23 v4) < nD := fun v4 k0_hw2 => k0_hw2.2.2.2.2.2.2.2.2.2.2.2.1
theorem k0_dev25_lt : ∀ (v4 : BitVec 32) (k0_hw2 : k0_chk2 v4), (k0_dev25 v4) < nD := fun v4 k0_hw2 => k0_hw2.2.2.2.2.2.2.2.2.2.2.2.2.1
theorem k0_dev27_lt : ∀ (v4 : BitVec 32) (k0_hw2 : k0_chk2 v4), (k0_dev27 v4) < nD := fun v4 k0_hw2 => k0_hw2.2.2.2.2.2.2.2.2.2.2.2.2.2.1
theorem k0_dev29_lt : ∀ (v4 : BitVec 32) (k0_hw2 : k0_chk2 v4), (k0_dev29 v4) < nD := fun v4 k0_hw2 => k0_hw2.2.2.2.2.2.2.2.2.2.2.2.2.2.2.1
theorem k0_dev31_lt : ∀ (v4 : BitVec 32) (k0_hw2 : k0_chk2 v4), (k0_dev31 v4) < nD := fun v4 k0_hw2 => k0_hw2.2.2.2.2.2.2.2.2.2.2.2.2.2.2.2.1
theorem k0_dev33_lt : ∀ (v4 : BitVec 32) (k0_hw2 : k0_chk2 v4), (k0_dev33 v4) < nD := fun v4 k0_hw2 => k0_hw2.2.2.2.2.2.2.2.2.2.2.2.2.2.2.2.2

def k0_off30 (v875 : BitVec 32) : Fin 2 → Nat :=
  let c128_i32_843 : BitVec 32 := 128#32
  let v881 : BitVec 32 := Scalar.muli v875 c128_i32_843
  let v882 : Index := Scalar.indexCast v881
  let c0_844 : Index := 0#32
  ![v882.toNat, 0]

def k0_chk31 (v875 : BitVec 32) : Prop :=
  (∀ a, (k0_off30 v875) a + S128x256.size a ≤ S4096x256.size a)
theorem k0_off30_inb : ∀ (v875 : BitVec 32) (k0_hw31 : k0_chk31 v875), ∀ a, (k0_off30 v875) a + S128x256.size a ≤ S4096x256.size a := fun v875 k0_hw31 => k0_hw31

def k0_off31 (v886 : BitVec 32) : Fin 2 → Nat :=
  let c128_i32_852 : BitVec 32 := 128#32
  let v892 : BitVec 32 := Scalar.muli v886 c128_i32_852
  let v893 : Index := Scalar.indexCast v892
  let c0_853 : Index := 0#32
  ![v893.toNat, 0]

def k0_chk32 (v886 : BitVec 32) : Prop :=
  (∀ a, (k0_off31 v886) a + S128x256.size a ≤ S4096x256.size a)
theorem k0_off31_inb : ∀ (v886 : BitVec 32) (k0_hw32 : k0_chk32 v886), ∀ a, (k0_off31 v886) a + S128x256.size a ≤ S4096x256.size a := fun v886 k0_hw32 => k0_hw32

def k0_off32 (v905 : BitVec 32) : Fin 2 → Nat :=
  let c128_i32_870 : BitVec 32 := 128#32
  let v911 : BitVec 32 := Scalar.muli v905 c128_i32_870
  let v912 : Index := Scalar.indexCast v911
  let c0_871 : Index := 0#32
  ![v912.toNat, 0]

def k0_chk33 (v905 : BitVec 32) : Prop :=
  (∀ a, (k0_off32 v905) a + S128x256.size a ≤ S4096x256.size a)
theorem k0_off32_inb : ∀ (v905 : BitVec 32) (k0_hw33 : k0_chk33 v905), ∀ a, (k0_off32 v905) a + S128x256.size a ≤ S4096x256.size a := fun v905 k0_hw33 => k0_hw33

abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S16 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S15 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Text.lean ====
/-
The body of the ring kernel, folded: the printed statements are one prologue, the steps of hop 0, one stage for every later hop, and one
wait for every send. `body_eq` is by definitional unfolding.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-- A program of one TensorCore that returns nothing. -/
abbrev Pr (F : FTy → Type) [FloatOps F] : Type 1 := Prog (TpuEff nD τ sig (Elt F) Λ₀ .tc) PUnit

abbrev xM : Memref sig .tc .vmem S128x4096 .fp8e4m3 := Memref.whole cc0_stg0_0
abbrev wM : Memref sig .tc .vmem S4096x256 .fp8e4m3 := Memref.whole cc0_stg1_0
abbrev sxM : Memref sig .tc .smem S1 .f32 := Memref.whole cc0_stg2_0
abbrev swM : Memref sig .tc .smem S1 .f32 := Memref.whole cc0_stg3_0
abbrev nxM : Memref sig .tc .smem S1 .i32 := Memref.whole cc0_stg4_0
abbrev pvM : Memref sig .tc .smem S1 .i32 := Memref.whole cc0_stg5_0
abbrev orM : Memref sig .tc .smem S16 .i32 := Memref.whole cc0_stg6_0
abbrev olM : Memref sig .tc .smem S15 .i32 := Memref.whole cc0_stg7_0
abbrev oM : Memref sig .tc .vmem S4096x256 .f32 := Memref.whole cc0_stg8_0
abbrev crM : Memref sig .tc .vmem S16x128x4096 .fp8e4m3 := Memref.whole cc0_scratch0
abbrev clM : Memref sig .tc .vmem S15x128x4096 .fp8e4m3 := Memref.whole cc0_scratch1

theorem inb16 (j : Fin 16) : ∀ a, (![j.val] : Fin 1 → Nat) a + S1.size a ≤ S16.size a := by revert j; decide
theorem inb15 (j : Fin 15) : ∀ a, (![j.val] : Fin 1 → Nat) a + S1.size a ≤ S15.size a := by revert j; decide
theorem inbR (j : Fin 16) : ∀ a, (![j.val, 0, 0] : Fin 3 → Nat) a + S1x128x4096.size a ≤ S16x128x4096.size a := by revert j; decide
theorem inbL (j : Fin 15) : ∀ a, (![j.val, 0, 0] : Fin 3 → Nat) a + S1x128x4096.size a ≤ S15x128x4096.size a := by revert j; decide

abbrev rectR (j : Fin 16) : Rect S16x128x4096 := Rect.unit (s := S16x128x4096) ![j.val, 0, 0] S1x128x4096.size (inbR j)
abbrev rectL (j : Fin 15) : Rect S15x128x4096 := Rect.unit (s := S15x128x4096) ![j.val, 0, 0] S1x128x4096.size (inbL j)

theorem wordsR (j : Fin 16) : (rectR j).WholeWords (EltTy.packing .fp8e4m3) := by revert j; decide
theorem wordsL (j : Fin 15) : (rectL j).WholeWords (EltTy.packing .fp8e4m3) := by revert j; decide

/-- Slot `j` of the landing buffer of the rightward ring, as a chunk. -/
def sR (j : Fin 16) : Memref sig .tc .vmem S128x4096 .fp8e4m3 := (crM.slice (rectR j) (fun _ => rfl)).squeeze S128x4096 squeezes_S1x128x4096_S128x4096
/-- Slot `j` of the landing buffer of the leftward ring. -/
def sL (j : Fin 15) : Memref sig .tc .vmem S128x4096 .fp8e4m3 := (clM.slice (rectL j) (fun _ => rfl)).squeeze S128x4096 squeezes_S1x128x4096_S128x4096

theorem sR_we (j : Fin 16) : (sR j).view.WordExact := ((Memref.isWhole_whole cc0_scratch0).wordExact_slice rfl _ (wordsR j)).reshape _ _
theorem sL_we (j : Fin 15) : (sL j).view.WordExact := ((Memref.isWhole_whole cc0_scratch1).wordExact_slice rfl _ (wordsL j)).reshape _ _

/-- What hop `h` of the rightward ring sends on: the own chunk first, then the slot that hop `h - 1` filled. -/
def srcR : Fin 16 → Memref sig .tc .vmem S128x4096 .fp8e4m3
  | ⟨0, _⟩ => xM
  | ⟨j + 1, hj⟩ => sR ⟨j, Nat.lt_of_succ_lt hj⟩
def srcL : Fin 15 → Memref sig .tc .vmem S128x4096 .fp8e4m3
  | ⟨0, _⟩ => xM
  | ⟨j + 1, hj⟩ => sL ⟨j, Nat.lt_of_succ_lt hj⟩

theorem srcR_we : ∀ j : Fin 16, (srcR j).view.WordExact
  | ⟨0, _⟩ => (Memref.isWhole_whole cc0_stg0_0).wordExact
  | ⟨j + 1, hj⟩ => sR_we ⟨j, Nat.lt_of_succ_lt hj⟩
theorem srcL_we : ∀ j : Fin 15, (srcL j).view.WordExact
  | ⟨0, _⟩ => (Memref.isWhole_whole cc0_stg0_0).wordExact
  | ⟨j + 1, hj⟩ => sL_we ⟨j, Nat.lt_of_succ_lt hj⟩

/-- The send and receive semaphores of hop `h`. -/
def sndR (h : Fin 16) : DmaSem sig := ((cc0_scratch2.slice (Rect.unit (s := S16) ![h.val] S1.size (inb16 h))).squeeze S_ squeezes_S1_S_).sem
def rcvR (h : Fin 16) : DmaSem sig := ((cc0_scratch3.slice (Rect.unit (s := S16) ![h.val] S1.size (inb16 h))).squeeze S_ squeezes_S1_S_).sem
def sndL (h : Fin 15) : DmaSem sig := ((cc0_scratch4.slice (Rect.unit (s := S15) ![h.val] S1.size (inb15 h))).squeeze S_ squeezes_S1_S_).sem
def rcvL (h : Fin 15) : DmaSem sig := ((cc0_scratch5.slice (Rect.unit (s := S15) ![h.val] S1.size (inb15 h))).squeeze S_ squeezes_S1_S_).sem

def hopR (d : Dev nD) (h : Fin 16) (k : Pr F) : Pr F :=
  .op (.enqueueDma (srcR h) (.remote (Dev.tc d) (sR h) (.dma (sndR h))) (.dma (rcvR h)) (srcR_we h) (sR_we h) ⟨⟨rfl, Or.inl rfl⟩, trivial⟩) fun _ => k
def hopL (d : Dev nD) (h : Fin 15) (k : Pr F) : Pr F :=
  .op (.enqueueDma (srcL h) (.remote (Dev.tc d) (sL h) (.dma (sndL h))) (.dma (rcvL h)) (srcL_we h) (sL_we h) ⟨⟨rfl, Or.inl rfl⟩, trivial⟩) fun _ => k

def recvR (h : Fin 16) (k : Pr F) : Pr F := .op (.waitDma2 (rcvR h) (srcR h) (sR h) (srcR_we h) (sR_we h)) fun _ => k
def recvL (h : Fin 15) (k : Pr F) : Pr F := .op (.waitDma2 (rcvL h) (srcL h) (sL h) (srcL_we h) (sL_we h)) fun _ => k
def sentR (h : Fin 16) (k : Pr F) : Pr F := .op (.waitDma2 (sndR h) (sR h) (srcR h) (sR_we h) (srcR_we h)) fun _ => k
def sentL (h : Fin 15) (k : Pr F) : Pr F := .op (.waitDma2 (sndL h) (sL h) (srcL h) (sL_we h) (srcL_we h)) fun _ => k

/-- The whole right factor, read once for every chunk. -/
abbrev wRect : Rect S4096x256 := Rect.unit (s := S4096x256) ![0, 0] S4096x256.size inb_S4096x256_S4096x256_0_0
/-- The block of the result that starts at row `128 * v`. -/
abbrev oRect (v : BitVec 32) (hv : k0_chk3 v) : Rect S4096x256 := Rect.unit (s := S4096x256) (k0_off2 v) S128x256.size (k0_off2_inb v hv)

/-- The product of the own chunk, stored at the own block. -/
def gemm0 (c : Dev nD) (sc : F .f32) (k : Pr F) : Pr F :=
  .op (.load xM (Rect.unit (s := S128x4096) ![0, 0] S128x4096.size inb_S128x4096_S128x4096_0_0).toLoadRect (View.loadsAt_vmem h_S128x4096)) fun a =>
  .op (.load wM wRect.toLoadRect (View.loadsAt_vmem h_S4096x256)) fun b =>
  .op (.load oM (Rect.unit (s := S4096x256) (k0_off1 c) S128x256.size (k0_off1_inb c)).toLoadRect (View.loadsAt_vmem h_S128x256)) fun _ =>
  .op (.store oM (Rect.unit (s := S4096x256) (k0_off1 c) S128x256.size (k0_off1_inb c)) (k0_pay2 sc a b) Finset.univ (View.stores_vmem_bits_univ h_S128x256 rfl) (.inl rfl)) fun _ => k

/-- The product of slot `j` of the rightward ring, stored at the block of the device it came from. -/
def gemmR (sc : F .f32) (j : Fin 16) (k : Pr F) : Pr F :=
  .op (.load crM (rectR j).toLoadRect (View.loadsAt_vmem h_S1x128x4096)) fun a =>
  smemLoadElt orM (Rect.unit (s := S16) ![j.val] S1.size (inb16 j)) (View.loads_smem_one rfl numel1_S1) (Shape.Idx.first (numel1_S1.symm ▸ Nat.one_pos)) fun v =>
  .op (TpuEff.assume (k0_chk3 v) (k0_chk3.dec v)) fun hv =>
  .op (.load wM wRect.toLoadRect (View.loadsAt_vmem h_S4096x256)) fun b =>
  .op (.load oM (oRect v hv.down).toLoadRect (View.loadsAt_vmem h_S128x256)) fun _ =>
  .op (.store oM (oRect v hv.down) (k0_pay3 sc a b) Finset.univ (View.stores_vmem_bits_univ h_S128x256 rfl) (.inl rfl)) fun _ => k

def gemmL (sc : F .f32) (j : Fin 15) (k : Pr F) : Pr F :=
  .op (.load clM (rectL j).toLoadRect (View.loadsAt_vmem h_S1x128x4096)) fun a =>
  smemLoadElt olM (Rect.unit (s := S15) ![j.val] S1.size (inb15 j)) (View.loads_smem_one rfl numel1_S1) (Shape.Idx.first (numel1_S1.symm ▸ Nat.one_pos)) fun v =>
  .op (TpuEff.assume (k0_chk3 v) (k0_chk3.dec v)) fun hv =>
  .op (.load wM wRect.toLoadRect (View.loadsAt_vmem h_S4096x256)) fun b =>
  .op (.load oM (oRect v hv.down).toLoadRect (View.loadsAt_vmem h_S128x256)) fun _ =>
  .op (.store oM (oRect v hv.down) (k0_pay3 sc a b) Finset.univ (View.stores_vmem_bits_univ h_S128x256 rfl) (.inl rfl)) fun _ => k

/-- One stage: both rings send on what the last hop brought, both products of it, then the next chunks arrive. -/
def stage (dl dr : Dev nD) (sc : F .f32) (h : Fin 14) (k : Pr F) : Pr F :=
  hopR dr ⟨h.val + 1, by omega⟩ <| hopL dl ⟨h.val + 1, by omega⟩ <| gemmR sc ⟨h.val, by omega⟩ <| gemmL sc ⟨h.val, by omega⟩ <|
  recvR ⟨h.val + 1, by omega⟩ <| recvL ⟨h.val + 1, by omega⟩ k

/-- The stages from `14 - n` on. -/
def stages (dl dr : Dev nD) (sc : F .f32) : (n : ℕ) → n ≤ 14 → Pr F → Pr F
  | 0, _, k => k
  | n + 1, hn, k => stage dl dr sc ⟨13 - n, by omega⟩ (stages dl dr sc n (by omega) k)

/-- The last hop goes right only. -/
def lastStage (dr : Dev nD) (sc : F .f32) (k : Pr F) : Pr F :=
  hopR dr 15 <| gemmR sc 14 <| gemmL sc 14 <| recvR 15 <| gemmR sc 15 k

/-- The waits for the sends from hop `15 - n` on. -/
def sents : (n : ℕ) → n ≤ 15 → Pr F → Pr F
  | 0, _, k => sentR 15 k
  | n + 1, hn, k => sentR ⟨14 - n, by omega⟩ <| sentL ⟨14 - n, by omega⟩ <| sents n (by omega) k

/-- The body, folded. -/
def folded : Pr F :=
  .op .deviceId fun c =>
  smemLoadElt pvM (Rect.unit (s := S1) ![0] S1.size inb_S1_S1_0) (View.loads_smem_one rfl numel1_S1) (Shape.Idx.first (numel1_S1.symm ▸ Nat.one_pos)) fun v3 =>
  .op (TpuEff.assume (k0_chk1 v3) (k0_chk1.dec v3)) fun h1 =>
  smemLoadElt nxM (Rect.unit (s := S1) ![0] S1.size inb_S1_S1_0) (View.loads_smem_one rfl numel1_S1) (Shape.Idx.first (numel1_S1.symm ▸ Nat.one_pos)) fun v4 =>
  .op (TpuEff.assume (k0_chk2 v4) (k0_chk2.dec v4)) fun h2 =>
  smemLoadElt sxM (Rect.unit (s := S1) ![0] S1.size inb_S1_S1_0) (View.loads_smem_one rfl numel1_S1) (Shape.Idx.first (numel1_S1.symm ▸ Nat.one_pos)) fun v5 =>
  smemLoadElt swM (Rect.unit (s := S1) ![0] S1.size inb_S1_S1_0) (View.loads_smem_one rfl numel1_S1) (Shape.Idx.first (numel1_S1.symm ▸ Nat.one_pos)) fun v6 =>
  .op (.semSignal (Dev.tc (⟨k0_dev1 v3, k0_dev1_lt v3 h1.down⟩ : Dev nD)) (SemArray.scalar (sig.barrier 0 rfl) : Sems sig S_).sem 1) fun _ =>
  .op (.semSignal (Dev.tc (⟨k0_dev2 v4, k0_dev2_lt v4 h2.down⟩ : Dev nD)) (SemArray.scalar (sig.barrier 0 rfl) : Sems sig S_).sem 1) fun _ =>
  .op (.semWait (SemArray.scalar (sig.barrier 0 rfl) : Sems sig S_).sem 2) fun _ =>
  hopR ⟨k0_dev1 v4, k0_dev2_lt v4 h2.down⟩ 0 <| hopL ⟨k0_dev1 v3, k0_dev1_lt v3 h1.down⟩ 0 <|
  gemm0 c (k0_pay1 v5 v6) <| recvR 0 <| recvL 0 <|
  stages ⟨k0_dev1 v3, k0_dev1_lt v3 h1.down⟩ ⟨k0_dev1 v4, k0_dev2_lt v4 h2.down⟩ (k0_pay1 v5 v6) 14 le_rfl <|
  lastStage ⟨k0_dev1 v4, k0_dev2_lt v4 h2.down⟩ (k0_pay1 v5 v6) <| sents 15 le_rfl <| .ret ⟨⟩

end Cert.KernelIdeal.Ring

end
-- ==== Proof.Cycle.lean ====
/-
The cycle through the 32 devices: where each device stands on it, its two neighbours, and where a chunk that has travelled `k` hops
came from.
-/
module

public import proofs.«01_k».proof.Proof.Gen.KernelIdeal

@[expose] public section

namespace Cert.KernelIdeal.Ring

open Cert.KernelIdeal
open Idealize.ShloMosaic

/-- The device at each position of the cycle. -/
def cyc : Fin 32 → Dev nD := ![0, 3, 4, 7, 15, 12, 11, 8, 16, 19, 20, 23, 31, 28, 27, 24, 25, 26, 29, 30, 22, 21, 18, 17, 9, 10, 13, 14, 6, 5, 2, 1]
/-- The position of each device. -/
def pos : Dev nD → Fin 32 := ![0, 31, 30, 1, 2, 29, 28, 3, 7, 24, 25, 6, 5, 26, 27, 4, 8, 23, 22, 9, 10, 21, 20, 11, 15, 16, 17, 14, 13, 18, 19, 12]

theorem cyc_pos : ∀ c : Dev nD, cyc (pos c) = c := by decide
theorem pos_cyc : ∀ p : Fin 32, pos (cyc p) = p := by decide

/-- The device a chunk of direction `s` goes to next: to the right when `s` is true. -/
def fwd (s : Bool) (c : Dev nD) : Dev nD := cyc (if s then pos c + 1 else pos c - 1)
/-- The device a chunk of direction `s` comes from. -/
def back (s : Bool) (c : Dev nD) : Dev nD := cyc (if s then pos c - 1 else pos c + 1)

theorem back_fwd : ∀ (s : Bool) (c : Dev nD), back s (fwd s c) = c := by decide +kernel
theorem fwd_back : ∀ (s : Bool) (c : Dev nD), fwd s (back s c) = c := by decide +kernel
theorem back_not (s : Bool) (c : Dev nD) : back (!s) c = fwd s c := by cases s <;> rfl

/-- The step along the cycle, as a bijection. -/
def step (s : Bool) : Dev nD ≃ Dev nD := ⟨fwd s, back s, back_fwd s, fwd_back s⟩
def stepBack (s : Bool) : Dev nD ≃ Dev nD := ⟨back s, fwd s, fwd_back s, back_fwd s⟩

/-- Where the chunk that device `c` has got after `k` hops in direction `s` started. -/
def org (s : Bool) (c : Dev nD) (k : ℕ) : Dev nD := (back s)^[k] c

theorem org_zero (s : Bool) (c : Dev nD) : org s c 0 = c := rfl
theorem org_succ (s : Bool) (c : Dev nD) (k : ℕ) : org s c (k + 1) = org s (back s c) k := rfl
theorem org_fwd (s : Bool) (c : Dev nD) (k : ℕ) : org s (fwd s c) (k + 1) = org s c k := by rw [org_succ, back_fwd]

/-- A device gets the chunk of every device, its own included. -/
theorem org_cover : ∀ c d : Dev nD, d = c ∨ (∃ j : Fin 16, d = org true c (j.val + 1)) ∨ (∃ j : Fin 15, d = org false c (j.val + 1)) := by
  decide +kernel

end Cert.KernelIdeal.Ring

end
-- ==== Proof.Sched.lean ====
/-
The exchange as a schedule. One barrier cell per device with two duties, paid by its two neighbours: each hands over its own landing
buffer for the direction in which the payee sends to it. One send cell and one receive cell per device, direction and hop: a send cell
gives the copy's source back, a receive cell the slot the copy filled, holding the chunk of the device that chunk started from.
-/
module

public import proofs.«01_k».proof.Proof.Text
public import proofs.«01_k».proof.Proof.Cycle
public import proofs.«01_k».proof.Proof.Gen.KernelIdeal.Launch
public import Idealize.ShloMosaic.Lib.Rounds
public import Idealize.ShloMosaic.Lib.Tactic
public import Idealize.ShloMosaic.Harness.Basic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The two directions -/

/-- How many hops a direction makes: 16 to the right, 15 to the left. -/
def len : Bool → ℕ
  | true => 16
  | false => 15

def slot : (s : Bool) → Fin (len s) → Memref sig .tc .vmem S128x4096 .fp8e4m3
  | true, j => sR j
  | false, j => sL j
def src : (s : Bool) → Fin (len s) → Memref sig .tc .vmem S128x4096 .fp8e4m3
  | true, j => srcR j
  | false, j => srcL j
def snd : (s : Bool) → Fin (len s) → DmaSem sig
  | true, j => sndR j
  | false, j => sndL j
def rcv : (s : Bool) → Fin (len s) → DmaSem sig
  | true, j => rcvR j
  | false, j => rcvL j

theorem len_pos (s : Bool) : 0 < len s := by cases s <;> decide

theorem src_zero (s : Bool) : src s ⟨0, len_pos s⟩ = xM := by cases s <;> rfl
theorem src_succ (s : Bool) (j : ℕ) (h : j + 1 < len s) : src s ⟨j + 1, h⟩ = slot s ⟨j, Nat.lt_of_succ_lt h⟩ := by cases s <;> rfl

/-- The first send semaphore and the first receive semaphore of a direction. -/
def sndBase : Bool → ℕ
  | true => 9
  | false => 41
def rcvBase : Bool → ℕ
  | true => 25
  | false => 56

theorem base_le (s : Bool) : sndBase s + len s ≤ rcvBase s := by cases s <;> decide

theorem snd_val : ∀ (s : Bool) (h : Fin (len s)), (snd s h).val = sndBase s + h.val
  | true => (by decide : ∀ h : Fin 16, (sndR h).val = 9 + h.val)
  | false => (by decide : ∀ h : Fin 15, (sndL h).val = 41 + h.val)
theorem rcv_val : ∀ (s : Bool) (h : Fin (len s)), (rcv s h).val = rcvBase s + h.val
  | true => (by decide : ∀ h : Fin 16, (rcvR h).val = 25 + h.val)
  | false => (by decide : ∀ h : Fin 15, (rcvL h).val = 56 + h.val)

/-- What one copy adds to its semaphores. -/
abbrev N : ℕ := (xM : Memref sig .tc .vmem S128x4096 .fp8e4m3).view.dmaCredit
theorem N_pos : 0 < N := View.dmaCredit_pos _ (by decide)
theorem credit_slot (s : Bool) (h : Fin (len s)) : (slot s h).view.dmaCredit = N := by cases s <;> rfl
theorem credit_src (s : Bool) (h : Fin (len s)) : (src s h).view.dmaCredit = N := by
  obtain ⟨j, hj⟩ := h
  cases j with
  | zero => rw [src_zero]
  | succ j => rw [src_succ]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells and contents -/

abbrev barS : Sem sig := sig.barrier 0 rfl
abbrev barCell (c : Dev nD) : GSem nD τ sig := ((c : Thread nD τ), .reg barS)
abbrev sndCell (s : Bool) (c : Dev nD) (h : Fin (len s)) : GSem nD τ sig := ((c : Thread nD τ), .dma (snd s h))
abbrev rcvCell (s : Bool) (c : Dev nD) (h : Fin (len s)) : GSem nD τ sig := ((c : Thread nD τ), .dma (rcv s h))

/-- Chunk-shaped memory of device `c` at share `q`, reading as `Y`. -/
def holds (M : Memref sig .tc .vmem S128x4096 .fp8e4m3) (c : Dev nD) (q : PosShare TreeShare) (Y : S128x4096.Idx → Elt F .fp8e4m3) : sProp 𝕄 :=
  iprop(∃ f : Buf (Elt F) (M.view.loc (c : Thread nD τ)), ⌜M.view.read (Elt F) f = Y⌝ ∗ (M.view.loc (c : Thread nD τ) ↦[M.view.set]{q} f))

/-- The same at contents not chosen. -/
def anyAt (M : Memref sig .tc .vmem S128x4096 .fp8e4m3) (c : Dev nD) : sProp 𝕄 :=
  iprop(∃ f : Buf (Elt F) (M.view.loc (c : Thread nD τ)), (M.view.loc (c : Thread nD τ) ↦[M.view.set]{fullShare} f))

/-- The share of its source a hop takes: a quarter of the own chunk, or half of the slot filled by the hop before. -/
def srcShare (s : Bool) : ℕ → PosShare TreeShare
  | 0 => if s then fullShare.left.left else fullShare.left.right
  | _ + 1 => fullShare.left

variable (X : Dev nD → S128x4096.Idx → Elt F .fp8e4m3)

/-- Slot `h` of device `c`, holding what hop `h` brings. -/
def got (s : Bool) (c : Dev nD) (h : Fin (len s)) (q : PosShare TreeShare) : sProp 𝕄 := holds (slot s h) c q (X (org s c (h.val + 1)))
/-- The source of hop `h` at device `c`. -/
def lent (s : Bool) (c : Dev nD) (h : Fin (len s)) : sProp 𝕄 := holds (src s h) c (srcShare s h.val) (X (org s c h.val))

/-! ## The schedule -/

/-- What the neighbour of device `c` in direction `s` hands over: its landing slots for that direction, and that their receive cells
    are open. -/
def barPay (s : Bool) (c : Dev nD) : sProp 𝕄 :=
  bigSep Finset.univ fun h : Fin (len s) => iprop(anyAt (slot s h) (fwd s c) ∗ reached ER (rcvCell s (fwd s c) h) 0)

/-- The send and the receive payload of one direction, by semaphore number. -/
def dmaPay (s : Bool) (c : Dev nD) (q : ℕ) (rest : sProp 𝕄) : sProp 𝕄 :=
  if h : sndBase s ≤ q ∧ q < sndBase s + len s then lent X s c ⟨q - sndBase s, by omega⟩
  else if h : rcvBase s ≤ q ∧ q < rcvBase s + len s then got X s c ⟨q - rcvBase s, by omega⟩ fullShare
  else rest

def ringRd : Rounds.Schedule (GSem nD τ sig) Bool 𝕄 where
  duties g r := if r = 0 ∧ g.1.2 = .tc then (match g.2 with
    | .reg _ => Finset.univ
    | .dma _ => {true}) else ∅
  unitless _ := False
  amount g _ _ := match g.2 with
    | .reg _ => 1
    | .dma _ => N
  payload g _ d := match g.2 with
    | .reg _ => barPay d g.1.1
    | .dma q => dmaPay X true g.1.1 q.val (dmaPay X false g.1.1 q.val iprop(emp))
  amount_pos g _ _ _ := by
    cases g.2
    · exact Nat.one_pos
    · exact N_pos

instance holds_storable (M : Memref sig .tc .vmem S128x4096 .fp8e4m3) (c : Dev nD) (q : PosShare TreeShare) (Y : S128x4096.Idx → Elt F .fp8e4m3) :
    BI.Storable (upEmb : UEmb _ 𝕄) (holds M c q Y) := by unfold holds; infer_instance
instance anyAt_storable (M : Memref sig .tc .vmem S128x4096 .fp8e4m3) (c : Dev nD) : BI.Storable (upEmb : UEmb _ 𝕄) (anyAt (F := F) M c) := by
  unfold anyAt; infer_instance
instance barPay_storable (s : Bool) (c : Dev nD) : BI.Storable (upEmb : UEmb _ 𝕄) (barPay (F := F) s c) := by unfold barPay; infer_instance
instance dmaPay_storable (s : Bool) (c : Dev nD) (q : ℕ) (rest : sProp 𝕄) [BI.Storable (upEmb : UEmb _ 𝕄) rest] :
    BI.Storable (upEmb : UEmb _ 𝕄) (dmaPay X s c q rest) := by
  unfold dmaPay got lent
  (repeat' split) <;> infer_instance

instance ringRd_payload_storable (g : GSem nD τ sig) (r : ℕ) (d : Bool) : BI.Storable (upEmb : UEmb _ 𝕄) ((ringRd X).payload g r d) := by
  show BI.Storable upEmb (match g.2 with
    | .reg _ => barPay d g.1.1
    | .dma q => dmaPay X true g.1.1 q.val (dmaPay X false g.1.1 q.val iprop(emp)))
  split <;> infer_instance

section Sched

variable (c : Dev nD)

theorem duties_bar : (ringRd X).duties (barCell c) 0 = Finset.univ := by dsimp only [ringRd]; exact if_pos ⟨rfl, rfl⟩
theorem duties_dma (q : DmaSem sig) : (ringRd X).duties ((c : Thread nD τ), .dma q) 0 = {true} := by dsimp only [ringRd]; exact if_pos ⟨rfl, rfl⟩
theorem duties_later (g : GSem nD τ sig) : ∀ r, 1 ≤ r → (ringRd X).duties g r = ∅ :=
  fun r hr => by dsimp only [ringRd]; rw [if_neg (fun h => by omega)]

theorem amount_bar (d : Bool) : (ringRd X).amount (barCell c) 0 d = 1 := rfl
theorem amount_dma (q : DmaSem sig) (d : Bool) : (ringRd X).amount ((c : Thread nD τ), .dma q) 0 d = N := rfl

theorem expect_bar : (ringRd X).expect (barCell c) 0 = 2 := by
  unfold Schedule.expect Schedule.amountOf; rw [duties_bar]; rfl
theorem expect_dma (q : DmaSem sig) : (ringRd X).expect ((c : Thread nD τ), .dma q) 0 = N := by
  unfold Schedule.expect Schedule.amountOf; rw [duties_dma, Finset.sum_singleton, amount_dma]

theorem payload_bar (d : Bool) : (ringRd X).payload (barCell c) 0 d = barPay d c := rfl
theorem payload_dma (q : DmaSem sig) (d : Bool) :
    (ringRd X).payload ((c : Thread nD τ), .dma q) 0 d = dmaPay X true c q.val (dmaPay X false c q.val iprop(emp)) := rfl

omit [FloatOps F] in
theorem dmaPay_snd (s : Bool) (h : Fin (len s)) (rest : sProp 𝕄) : dmaPay X s c (sndBase s + h.val) rest = lent X s c h := by
  have hh := h.isLt
  unfold dmaPay
  rw [dif_pos ⟨by omega, by omega⟩]
  congr 1; apply Fin.ext; simp
omit [FloatOps F] in
theorem dmaPay_rcv (s : Bool) (h : Fin (len s)) (rest : sProp 𝕄) : dmaPay X s c (rcvBase s + h.val) rest = got X s c h fullShare := by
  have hh := h.isLt
  have hb := base_le s
  unfold dmaPay
  rw [dif_neg (by omega), dif_pos ⟨by omega, by omega⟩]
  congr 1; apply Fin.ext; simp
omit [FloatOps F] in
theorem dmaPay_other (q : ℕ) (hq : 41 ≤ q) (rest : sProp 𝕄) : dmaPay X true c q rest = rest := by
  have e1 : sndBase true = 9 := rfl
  have e2 : rcvBase true = 25 := rfl
  have e3 : len true = 16 := rfl
  unfold dmaPay
  rw [dif_neg (by omega), dif_neg (by omega)]

theorem payload_snd (s : Bool) (h : Fin (len s)) (d : Bool) : (ringRd X).payload (sndCell s c h) 0 d = lent X s c h := by
  rw [payload_dma, snd_val]
  cases s
  · rw [dmaPay_other X c _ (Nat.le_add_right (sndBase false) _), dmaPay_snd]
  · rw [dmaPay_snd]
theorem payload_rcv (s : Bool) (h : Fin (len s)) (d : Bool) : (ringRd X).payload (rcvCell s c h) 0 d = got X s c h fullShare := by
  rw [payload_dma, rcv_val]
  cases s
  · rw [dmaPay_other X c _ (le_trans (by decide) (Nat.le_add_right (rcvBase false) _)), dmaPay_rcv]
  · rw [dmaPay_rcv]

theorem rest_bar : bigSep ((ringRd X).duties (barCell c) 0 \ ∅) (fun d => (ringRd X).payload (barCell c) 0 d) = bigSep Finset.univ fun d => barPay (F := F) d c := by
  rw [Finset.sdiff_empty, duties_bar]; rfl
theorem rest_snd (s : Bool) (h : Fin (len s)) :
    bigSep ((ringRd X).duties (sndCell s c h) 0 \ ∅) (fun d => (ringRd X).payload (sndCell s c h) 0 d) = lent X s c h := by
  rw [Finset.sdiff_empty, duties_dma, bigSep_singleton, payload_snd]
theorem rest_rcv (s : Bool) (h : Fin (len s)) :
    bigSep ((ringRd X).duties (rcvCell s c h) 0 \ ∅) (fun d => (ringRd X).payload (rcvCell s c h) 0 d) = got X s c h fullShare := by
  rw [Finset.sdiff_empty, duties_dma, bigSep_singleton, payload_rcv]

end Sched

theorem close (κ : ℕ) (g : GSem nD τ sig) : iprop(cellInv ER (ringRd X) κ g ∗ atPos ER g (0 + 1) ∅ 0) ⊢ (|={Set.univ}=> semVal g 0 : sProp 𝕄) :=
  Rounds.cell_close ER (ringRd X) (Set.mem_univ κ) id (duties_later X g)

/-! ## Levels and what is owed -/

def L (g : GSem nD τ sig) : Finset Unit := if g.1.2 = .tc then {()} else ∅
/-- A receive cell's level grows with its hop; the barrier is below them, everything else at the bottom. -/
def lv (g : GSem nD τ sig) (_ : Unit) : ℕ := match g.2 with
  | .reg _ => 1
  | .dma q => if 25 ≤ q.val ∧ q.val < 41 then 2 + (q.val - 25) else if 56 ≤ q.val ∧ q.val < 71 then 2 + (q.val - 56) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_rcv (s : Bool) (c : Dev nD) (h : Fin (len s)) (u : Unit) : lv (rcvCell s c h) u = 2 + h.val := by
  have e : lv (rcvCell s c h) u = if 25 ≤ (rcv s h).val ∧ (rcv s h).val < 41 then 2 + ((rcv s h).val - 25)
      else if 56 ≤ (rcv s h).val ∧ (rcv s h).val < 71 then 2 + ((rcv s h).val - 56) else 0 := rfl
  rw [e, rcv_val]
  have hh := h.isLt
  cases s
  · have e2 : rcvBase false = 56 := rfl
    have e3 : len false = 15 := rfl
    rw [if_neg (by omega), if_pos (by omega)]; omega
  · have e2 : rcvBase true = 25 := rfl
    have e3 : len true = 16 := rfl
    rw [if_pos (by omega)]; omega

/-- The arrivals at the next device that the hops from `k` on still have to bring. -/
def dues (s : Bool) (c : Dev nD) (k : ℕ) : CellTallies nD τ sig Unit :=
  ∑ h ∈ Finset.univ.filter (fun h : Fin (len s) => k ≤ h.val), tallyAt (rcvCell s (fwd s c) h) () N

theorem dues_step (s : Bool) (c : Dev nD) (h : Fin (len s)) : dues s c h.val = dues s c (h.val + 1) + tallyAt (rcvCell s (fwd s c) h) () N := by
  unfold dues
  have e : Finset.univ.filter (fun j : Fin (len s) => h.val ≤ j.val) = insert h (Finset.univ.filter (fun j : Fin (len s) => h.val + 1 ≤ j.val)) := by
    ext j; simp only [Finset.mem_filter, Finset.mem_univ, true_and, Finset.mem_insert, Fin.ext_iff]; omega
  rw [e, Finset.sum_insert (by simp), add_comm]

theorem dues_end (s : Bool) (c : Dev nD) (k : ℕ) (hk : len s ≤ k) : dues s c k = 0 := by
  unfold dues
  rw [Finset.filter_false_of_mem (fun j _ => by have := j.isLt; omega), Finset.sum_empty]

theorem tally_pos {g g' : GSem nD τ sig} {k : ℕ} {u : Unit} (h : 0 < (tallyAt g () k : CellTallies nD τ sig Unit) g' u) : g' = g := by
  rw [tallyAt_apply] at h
  by_contra hne
  rw [if_neg (fun e => hne e.1)] at h
  exact absurd h (Nat.lt_irrefl 0)

theorem add_pos_cases {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h

theorem dues_pos {s : Bool} {c : Dev nD} {k : ℕ} {g : GSem nD τ sig} {u : Unit} (h : 0 < dues s c k g u) :
    ∃ j : Fin (len s), k ≤ j.val ∧ g = rcvCell s (fwd s c) j := by
  unfold dues at h
  rw [Finset.sum_apply, Finsupp.finset_sum_apply] at h
  obtain ⟨j, hj, hp⟩ := Finset.exists_ne_zero_of_sum_ne_zero (Nat.pos_iff_ne_zero.mp h)
  exact ⟨j, (Finset.mem_filter.mp hj).2, tally_pos (Nat.pos_of_ne_zero hp)⟩

/-- What a device owes at launch. -/
def O₀ (c : Dev nD) : CellTallies nD τ sig Unit :=
  dues true c 0 + dues false c 0 + tallyAt (barCell (back false c)) () 1 + tallyAt (barCell (back true c)) () 1

/-- A device may wait on a cell below every arrival it still owes. -/
theorem mayWait (c : Dev nD) (sm : SemLoc sig) (a b : ℕ) (ha : lv ((c : Thread nD τ), sm) () < 2 + a) (hb : lv ((c : Thread nD τ), sm) () < 2 + b) :
    (levAts L lv : sProp 𝕄) ⊢ MayWait (c : Thread nD τ) sm () (dues true c a + dues false c b) :=
  MayOwe.of_cut (L := L) (lev := lv) (lv ((c : Thread nD τ), sm) ()) (fun p hp => by rw [Finset.mem_singleton.mp hp, L_tc]; exact Finset.mem_singleton_self _)
    (fun g u hg => by
      rcases add_pos_cases hg with h | h <;> obtain ⟨j, -, rfl⟩ := dues_pos h <;> rw [L_tc] <;> exact Finset.mem_singleton_self _)
    (fun p hp => by rw [Finset.mem_singleton.mp hp])
    (fun g u hg => by
      rcases add_pos_cases hg with h | h <;> obtain ⟨j, hj, rfl⟩ := dues_pos h <;> rw [lv_rcv] <;> omega)

end Cert.KernelIdeal.Ring

end
-- ==== Proof.Hops.lean ====
/-
One copy, one wait for an arrival and one wait for a departure, each over the cells of its own hop, in either direction.
-/
module

public import proofs.«01_k».proof.Proof.Sched

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The operations, the direction a parameter -/

theorem slot_we : ∀ (s : Bool) (h : Fin (len s)), (slot s h).view.WordExact
  | true, h => sR_we h
  | false, h => sL_we h
theorem src_we : ∀ (s : Bool) (h : Fin (len s)), (src s h).view.WordExact
  | true, h => srcR_we h
  | false, h => srcL_we h
theorem slot_tc : ∀ (s : Bool) (h : Fin (len s)), (slot s h).view.ref.isScScratch = false
  | true, _ => rfl
  | false, _ => rfl

def hop (s : Bool) (d : Dev nD) (h : Fin (len s)) (k : Pr F) : Pr F :=
  .op (.enqueueDma (src s h) (.remote (Dev.tc d) (slot s h) (.dma (snd s h)) (slot_tc s h)) (.dma (rcv s h)) (src_we s h) (slot_we s h) ⟨⟨rfl, Or.inl rfl⟩, trivial⟩) fun _ => k
def recv (s : Bool) (h : Fin (len s)) (k : Pr F) : Pr F := .op (.waitDma2 (rcv s h) (src s h) (slot s h) (src_we s h) (slot_we s h)) fun _ => k
def sentWait (s : Bool) (h : Fin (len s)) (k : Pr F) : Pr F := .op (.waitDma2 (snd s h) (slot s h) (src s h) (slot_we s h) (src_we s h)) fun _ => k

theorem hopR_eq (d : Dev nD) (h : Fin 16) (k : Pr F) : hopR d h k = hop true d h k := rfl
theorem hopL_eq (d : Dev nD) (h : Fin 15) (k : Pr F) : hopL d h k = hop false d h k := rfl
theorem recvR_eq (h : Fin 16) (k : Pr F) : recvR h k = recv true h k := rfl
theorem recvL_eq (h : Fin 15) (k : Pr F) : recvL h k = recv false h k := rfl
theorem sentR_eq (h : Fin 16) (k : Pr F) : sentR h k = sentWait true h k := rfl
theorem sentL_eq (h : Fin 15) (k : Pr F) : sentL h k = sentWait false h k := rfl

/-! ## What a hop needs and leaves -/

variable (X : Dev nD → S128x4096.Idx → Elt F .fp8e4m3)

/-- Before hop `h` is issued: the right to pay its two duties, the target slot, the position on its send cell. -/
def todo (s : Bool) (c : Dev nD) (h : Fin (len s)) : sProp 𝕄 :=
  iprop((dutyTok ER (sndCell s c h) 0 true ∗ reached ER (sndCell s c h) 0 ∗ atPos ER (sndCell s c h) 0 ∅ 0)
    ∗ dutyTok ER (rcvCell s (fwd s c) h) 0 true ∗ anyAt (slot s h) (fwd s c) ∗ reached ER (rcvCell s (fwd s c) h) 0)
/-- While it is on its way. -/
def flying (s : Bool) (c : Dev nD) (h : Fin (len s)) : sProp 𝕄 :=
  iprop(cred (tallyAt (sndCell s c h) () N) ∗ atPos ER (sndCell s c h) 0 ∅ 0)
/-- Once its departure has been waited for. -/
def gone (s : Bool) (c : Dev nD) (h : Fin (len s)) : sProp 𝕄 := iprop(semVal (sndCell s c h) 0 ∗ lent X s c h)
/-- Before the arrival of hop `h` has been waited for. -/
def waiting (s : Bool) (c : Dev nD) (h : Fin (len s)) : sProp 𝕄 :=
  iprop(cred (tallyAt (rcvCell s c h) () N) ∗ atPos ER (rcvCell s c h) 0 ∅ 0)
/-- After it, holding share `q` of the slot. -/
def arrived (q : PosShare TreeShare) (s : Bool) (c : Dev nD) (h : Fin (len s)) : sProp 𝕄 := iprop(semVal (rcvCell s c h) 0 ∗ got X s c h q)

theorem landed (s : Bool) (c : Dev nD) (h : Fin (len s)) (fs : Buf (Elt F) ((src s h).view.loc (c : Thread nD τ)))
    (fd : Buf (Elt F) ((slot s h).view.loc ((fwd s c : Dev nD) : Thread nD τ))) (hf : (src s h).view.read (Elt F) fs = X (org s c h.val)) :
    ((slot s h).view.loc ((fwd s c : Dev nD) : Thread nD τ) ↦[(slot s h).view.set]{fullShare} ((slot s h).view.write (Elt F) fd ((src s h).view.read (Elt F) fs) Finset.univ) : sProp 𝕄)
      ⊢ got X s (fwd s c) h fullShare := by
  unfold got holds
  iintro H
  iexists ((slot s h).view.write (Elt F) fd ((src s h).view.read (Elt F) fs) Finset.univ)
  isplitr
  · ipureintro
    rw [org_fwd]
    exact (View.read_write_univ (v := (slot s h).view) fd _).trans hf
  · iexact H

theorem wp_hop (s : Bool) (c : Dev nD) (h : Fin (len s)) (κ : GSem nD τ sig → ℕ) (O : CellTallies nD τ sig Unit) (W : Waits sig Unit)
    (k : Pr F) (Q : PUnit → sProp 𝕄) :
    iprop(cellInv ER (ringRd X) (κ (sndCell s c h)) (sndCell s c h) ∗ cellInv ER (ringRd X) (κ (rcvCell s (fwd s c) h)) (rcvCell s (fwd s c) h)
        ∗ lent X s c h ∗ todo s c h ∗ owes (c : Thread nD τ) (O + tallyAt (rcvCell s (fwd s c) h) () N) W)
      ⊢ iprop(((flying s c h ∗ owes (c : Thread nD τ) O W) -∗ wp frame (wpE (defs₀ (F := F)) 𝒱₀ c none) Set.univ k Q)
        -∗ wp frame (wpE (defs₀ (F := F)) 𝒱₀ c none) Set.univ (hop s (fwd s c) h k) Q) := by
  unfold hop lent holds todo anyAt
  iintro ⟨HI1, HI2, ⟨%fs, %hfs, Hs⟩, ⟨⟨Ht1, Hr1, Hat⟩, Ht2, ⟨%fd, Hd⟩, Hr2⟩, HO⟩ Hk
  iapply (Rounds.wp_send_pointsTo 𝒱₀ ER (ringRd X) (c : Thread nD τ) none (c' := ((fwd s c : Dev nD) : Thread nD τ)) (src := src s h) (dst := slot s h)
      (sS := .dma (snd s h)) (sem := .dma (rcv s h)) (q := srcShare s h.val) (fs := fs) (κ₁ := κ (sndCell s c h)) (κ₂ := κ (rcvCell s (fwd s c) h))
      (r₁ := 0) (r₂ := 0) (d₁ := true) (d₂ := true) (fd := fd)
      (by rw [duties_dma]; exact Finset.mem_singleton_self _) (by rw [duties_dma]; exact Finset.mem_singleton_self _)
      () () N (credit_slot s h) (amount_dma X c _ _) (amount_dma X (fwd s c) _ _) O rfl (W := W)
      (by
        rw [payload_snd]; unfold lent holds
        iintro H; iexists fs
        isplitr; · ipureintro; exact hfs
        iexact H)
      (by rw [payload_rcv]; exact landed X s c h fs fd hfs)) $$ [HI1 HI2 Hs Ht1 Hr1 Ht2 Hd Hr2 HO]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  unfold flying
  isplitl [Hc Hat]
  · isplitl [Hc] <;> iassumption
  iexact HO

theorem wp_recv (s : Bool) (c : Dev nD) (h : Fin (len s)) (κ : ℕ) (O : CellTallies nD τ sig Unit) (W : Waits sig Unit)
    (k : Pr F) (Q : PUnit → sProp 𝕄) :
    iprop(cellInv ER (ringRd X) κ (rcvCell s c h) ∗ waiting s c h ∗ owes (c : Thread nD τ) O W ∗ MayWait (c : Thread nD τ) (.dma (rcv s h)) () O)
      ⊢ iprop(((arrived X fullShare s c h ∗ ∃ W', owes (c : Thread nD τ) O W') -∗ wp frame (wpE (defs₀ (F := F)) 𝒱₀ c none) Set.univ k Q)
        -∗ wp frame (wpE (defs₀ (F := F)) 𝒱₀ c none) Set.univ (recv s h k) Q) := by
  unfold recv waiting
  iintro ⟨#HI, ⟨Hc, Hat⟩, HO, HM⟩ Hk
  iapply (Rounds.wp_wait_rest_token 𝒱₀ ER (ringRd X) (c : Thread nD τ) none (κ := κ)
      (wpE_waitDma2_eq 𝒱₀ (c : Thread nD τ) none Set.univ) (Set.mem_univ _) () (O := O) (W := W) (R := 0) (m := 0) (T := ∅)
      ((Nat.zero_add _).trans ((credit_slot s h).trans (expect_dma X c _).symm))) $$ [Hc Hat HO HM]
  · isplitr; · iexact HI
    isplitl [Hc]; · rw [credit_slot]; iexact Hc
    isplitl [HO]; · iexact HO
    isplitl [HM]; · iexact HM
    iexact Hat
  iintro ⟨HO, Hat, -, Hpay⟩
  ihave Hp := (Entails.of_eq (rest_rcv X c s h)) $$ Hpay
  imod (close X κ (rcvCell s c h)) $$ [Hat] with Hv
  · isplitr; · iexact HI
    iexact Hat
  iapply Hk
  unfold arrived
  isplitl [Hv Hp]
  · isplitl [Hv] <;> iassumption
  iexists _; iexact HO

theorem wp_sent (s : Bool) (c : Dev nD) (h : Fin (len s)) (κ : ℕ) (W : Waits sig Unit) (k : Pr F) (Q : PUnit → sProp 𝕄) :
    iprop(cellInv ER (ringRd X) κ (sndCell s c h) ∗ flying s c h ∗ owes (c : Thread nD τ) 0 W)
      ⊢ iprop(((gone X s c h ∗ ∃ W', owes (c : Thread nD τ) 0 W') -∗ wp frame (wpE (defs₀ (F := F)) 𝒱₀ c none) Set.univ k Q)
        -∗ wp frame (wpE (defs₀ (F := F)) 𝒱₀ c none) Set.univ (sentWait s h k) Q) := by
  unfold sentWait flying
  iintro ⟨#HI, ⟨Hc, Hat⟩, HO⟩ Hk
  iapply (Rounds.wp_wait_rest_token 𝒱₀ ER (ringRd X) (c : Thread nD τ) none (κ := κ)
      (wpE_waitDma2_eq 𝒱₀ (c : Thread nD τ) none Set.univ) (Set.mem_univ _) () (O := 0) (W := W) (R := 0) (m := 0) (T := ∅)
      ((Nat.zero_add _).trans ((credit_src s h).trans (expect_dma X c _).symm))) $$ [Hc Hat HO]
  · isplitr; · iexact HI
    isplitl [Hc]; · rw [credit_src]; iexact Hc
    isplitl [HO]; · iexact HO
    isplitr; · rw [MayWait_zero]; iempintro
    iexact Hat
  iintro ⟨HO, Hat, -, Hpay⟩
  ihave Hp := (Entails.of_eq (rest_snd X c s h)) $$ Hpay
  imod (close X κ (sndCell s c h)) $$ [Hat] with Hv
  · isplitr; · iexact HI
    iexact Hat
  iapply Hk
  unfold gone
  isplitl [Hv Hp]
  · isplitl [Hv] <;> iassumption
  iexists _; iexact HO

/-! ## Shares of a chunk -/

omit [FloatOps F] in
theorem holds_split (M : Memref sig .tc .vmem S128x4096 .fp8e4m3) (c : Dev nD) (q : PosShare TreeShare) (Y : S128x4096.Idx → Elt F .fp8e4m3) :
    (holds M c q Y : sProp 𝕄) ⊢ iprop(holds M c q.left Y ∗ holds M c q.right Y) := by
  unfold holds
  iintro ⟨%f, %hf, H⟩
  ihave H := (pointsTo_share (PosShare.mem_left_op_right q)).1 $$ H
  icases H with ⟨H1, H2⟩
  isplitl [H1]
  · iexists f; isplitr
    · ipureintro; exact hf
    · iexact H1
  · iexists f; isplitr
    · ipureintro; exact hf
    · iexact H2

omit [FloatOps F] in
theorem holds_join (M : Memref sig .tc .vmem S128x4096 .fp8e4m3) (c : Dev nD) (q : PosShare TreeShare) (Y Y' : S128x4096.Idx → Elt F .fp8e4m3) :
    iprop(holds M c q.left Y ∗ holds M c q.right Y') ⊢ (holds M c q Y : sProp 𝕄) := by
  unfold holds
  iintro ⟨⟨%f, %hf, H1⟩, ⟨%g, %hg, H2⟩⟩
  ihave Ha := (persistent_entails_right (pointsTo_agree (q₁ := q.left) (q₂ := q.right) (f := f) (g := g))) $$ [H1 H2]
  · isplitl [H1] <;> iassumption
  icases Ha with ⟨%he, H1, H2⟩
  iexists f
  isplitr; · ipureintro; exact hf
  iapply (pointsTo_share (PosShare.mem_left_op_right q)).2
  isplitl [H1]; · iexact H1
  rw [pointsTo_congr (f := f) (g := g) fun i hi => (he i (Finset.mem_inter.mpr ⟨hi, hi⟩)).1]
  iexact H2

end Cert.KernelIdeal.Ring

end
-- ==== Proof.Lanes.lean ====
/-
The hops of one direction as a family: how far they have been issued, arrived and departed, and how one operation moves the family on.
-/
module

public import proofs.«01_k».proof.Proof.Hops

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The kernel's own semaphores: send and receive of each rightward hop, then of each leftward hop. -/
abbrev Own : Type := (Fin 16 ⊕ Fin 16) ⊕ (Fin 15 ⊕ Fin 15)
def osem : Own → SemLoc sig
  | .inl (.inl h) => .dma (sndR h)
  | .inl (.inr h) => .dma (rcvR h)
  | .inr (.inl h) => .dma (sndL h)
  | .inr (.inr h) => .dma (rcvL h)

/-- The number of an own semaphore. -/
def ownVal : Own → ℕ
  | .inl (.inl h) => 9 + h.val
  | .inl (.inr h) => 25 + h.val
  | .inr (.inl h) => 41 + h.val
  | .inr (.inr h) => 56 + h.val
theorem osem_val : ∀ k : Own, ∃ q : DmaSem sig, osem k = .dma q ∧ q.val = ownVal k
  | .inl (.inl h) => ⟨_, rfl, snd_val true h⟩
  | .inl (.inr h) => ⟨_, rfl, rcv_val true h⟩
  | .inr (.inl h) => ⟨_, rfl, snd_val false h⟩
  | .inr (.inr h) => ⟨_, rfl, rcv_val false h⟩
theorem ownVal_inj : Function.Injective ownVal := by
  rintro ((h | h) | (h | h)) ((h' | h') | (h' | h')) e <;> simp only [ownVal] at e <;>
    first
      | (exfalso; omega)
      | (have e' : h = h' := Fin.ext (by omega)
         rw [e'])
theorem osem_inj : Function.Injective osem := by
  intro k k' e
  obtain ⟨q, hq, hv⟩ := osem_val k
  obtain ⟨q', hq', hv'⟩ := osem_val k'
  rw [hq, hq'] at e
  injection e with e
  exact ownVal_inj (by rw [← hv, ← hv', e])
theorem osem_ne_bar (k : Own) : osem k ≠ .reg barS := by
  obtain ⟨q, hq, -⟩ := osem_val k
  rw [hq]; exact fun e => by injection e

def sndOwn : (s : Bool) → Fin (len s) → Own
  | true, h => .inl (.inl h)
  | false, h => .inr (.inl h)
def rcvOwn : (s : Bool) → Fin (len s) → Own
  | true, h => .inl (.inr h)
  | false, h => .inr (.inr h)
theorem osem_snd (s : Bool) (h : Fin (len s)) : osem (sndOwn s h) = .dma (snd s h) := by cases s <;> rfl
theorem osem_rcv (s : Bool) (h : Fin (len s)) : osem (rcvOwn s h) = .dma (rcv s h) := by cases s <;> rfl

def barEmb : Dev nD ↪ GSem nD τ sig := ⟨fun c => barCell c, fun _ _ h => congrArg (fun g : GSem nD τ sig => g.1.1) h⟩
def ownEmb : Dev nD × Own ↪ GSem nD τ sig :=
  ⟨fun p => ((p.1 : Thread nD τ), osem p.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

theorem bar_mem (c : Dev nD) : barCell c ∈ (barCells ∪ ownCells : Finset (GSem nD τ sig)) :=
  Finset.mem_union_left _ (Finset.mem_map_of_mem barEmb (Finset.mem_univ c))
theorem own_mem (c : Dev nD) (k : Own) : ((c : Thread nD τ), osem k) ∈ (barCells ∪ ownCells : Finset (GSem nD τ sig)) :=
  Finset.mem_union_right _ (Finset.mem_map_of_mem ownEmb (Finset.mem_univ (c, k)))
theorem snd_mem (s : Bool) (c : Dev nD) (h : Fin (len s)) : sndCell s c h ∈ (barCells ∪ ownCells : Finset (GSem nD τ sig)) := by
  have := own_mem c (sndOwn s h); rwa [osem_snd] at this
theorem rcv_mem (s : Bool) (c : Dev nD) (h : Fin (len s)) : rcvCell s c h ∈ (barCells ∪ ownCells : Finset (GSem nD τ sig)) := by
  have := own_mem c (rcvOwn s h); rwa [osem_rcv] at this

variable (X : Dev nD → S128x4096.Idx → Elt F .fp8e4m3)

/-- Every cell's invariant, under one choice of names. -/
def inv (κ : GSem nD τ sig → ℕ) : sProp 𝕄 := bigSep (barCells ∪ ownCells) fun g => cellInv ER (ringRd X) (κ g) g

instance inv_persistent (κ : GSem nD τ sig → ℕ) : BI.Persistent (inv X κ) := by unfold inv; infer_instance

theorem inv_at (κ : GSem nD τ sig → ℕ) {g : GSem nD τ sig} (hg : g ∈ (barCells ∪ ownCells : Finset (GSem nD τ sig))) :
    inv X κ ⊢ (cellInv ER (ringRd X) (κ g) g : sProp 𝕄) := bigSep_elim hg

/-- A resource from which every cell's invariant can be read. The proof of the body is done for any such resource. -/
def Knows (κ : GSem nD τ sig → ℕ) (I : sProp 𝕄) : Prop :=
  ∀ g : GSem nD τ sig, g ∈ (barCells ∪ ownCells : Finset (GSem nD τ sig)) → I ⊢ (cellInv ER (ringRd X) (κ g) g : sProp 𝕄)

theorem knows_inv (κ : GSem nD τ sig → ℕ) : Knows X κ (inv X κ) := fun _ hg => inv_at X κ hg

/-! ## The families -/

/-- The sends: departed below `sr`, under way below `hr`, still to issue from there on. -/
def sends (s : Bool) (c : Dev nD) (hr sr : ℕ) : sProp 𝕄 :=
  bigSep Finset.univ fun h : Fin (len s) => if h.val < sr then gone X s c h else if h.val < hr then flying s c h else todo s c h
/-- The arrivals: half of the slot lent on below `fr`, whole below `rr`, still to wait for from there on. -/
def arrivals (s : Bool) (c : Dev nD) (fr rr : ℕ) : sProp 𝕄 :=
  bigSep Finset.univ fun h : Fin (len s) =>
    if h.val < fr then arrived X fullShare.right s c h else if h.val < rr then arrived X fullShare s c h else waiting s c h

omit [FloatOps F] in
/-- Move one member of a family. -/
theorem family_step {n : ℕ} {Φ Ψ : Fin n → sProp 𝕄} (i : Fin n) (h : ∀ j, j ≠ i → Ψ j = Φ j) :
    bigSep Finset.univ Φ ⊢ iprop(Φ i ∗ (Ψ i -∗ bigSep Finset.univ Ψ)) := bigSep_univ_update i h

omit [FloatOps F] in
theorem val_ne {n : ℕ} {i j : Fin n} (h : j ≠ i) : j.val ≠ i.val := fun e => h (Fin.ext e)

/-- Hop `h` from the family of sends. -/
theorem sends_issue (s : Bool) (c : Dev nD) (h : Fin (len s)) :
    sends X s c h.val 0 ⊢ iprop(todo s c h ∗ (flying s c h -∗ sends X s c (h.val + 1) 0)) := by
  unfold sends
  refine (family_step (Ψ := fun j : Fin (len s) => if j.val < 0 then gone X s c j else if j.val < h.val + 1 then flying s c j else todo s c j) h
    (fun j hj => ?_)).trans (Entails.of_eq ?_)
  · have := val_ne hj
    rw [if_neg (Nat.not_lt_zero _), if_neg (Nat.not_lt_zero _)]
    by_cases hlt : j.val < h.val
    · rw [if_pos hlt, if_pos (by omega)]
    · rw [if_neg hlt, if_neg (by omega)]
  · rw [if_neg (Nat.not_lt_zero _), if_neg (Nat.not_lt_zero _), if_neg (Nat.lt_irrefl _), if_pos (Nat.lt_succ_self _)]

theorem sends_depart (s : Bool) (c : Dev nD) (h : Fin (len s)) :
    sends X s c (len s) h.val ⊢ iprop(flying s c h ∗ (gone X s c h -∗ sends X s c (len s) (h.val + 1))) := by
  unfold sends
  refine (family_step (Ψ := fun j : Fin (len s) => if j.val < h.val + 1 then gone X s c j else if j.val < len s then flying s c j else todo s c j) h
    (fun j hj => ?_)).trans (Entails.of_eq ?_)
  · have := val_ne hj
    by_cases hlt : j.val < h.val
    · rw [if_pos hlt, if_pos (by omega)]
    · rw [if_neg hlt, if_neg (show ¬ j.val < h.val + 1 by omega)]
  · rw [if_neg (Nat.lt_irrefl _), if_pos h.isLt, if_pos (Nat.lt_succ_self _)]

theorem arrivals_land (s : Bool) (c : Dev nD) (fr : ℕ) (h : Fin (len s)) (hfr : fr ≤ h.val) :
    arrivals X s c fr h.val ⊢ iprop(waiting s c h ∗ (arrived X fullShare s c h -∗ arrivals X s c fr (h.val + 1))) := by
  unfold arrivals
  refine (family_step (Ψ := fun j : Fin (len s) => if j.val < fr then arrived X fullShare.right s c j else if j.val < h.val + 1 then arrived X fullShare s c j
    else waiting s c j) h (fun j hj => ?_)).trans (Entails.of_eq ?_)
  · have := val_ne hj
    by_cases hf : j.val < fr
    · rw [if_pos hf, if_pos hf]
    · rw [if_neg hf, if_neg hf]
      by_cases hlt : j.val < h.val
      · rw [if_pos hlt, if_pos (by omega)]
      · rw [if_neg hlt, if_neg (by omega)]
  · rw [if_neg (by omega), if_neg (Nat.lt_irrefl _), if_neg (by omega), if_pos (Nat.lt_succ_self _)]

theorem arrivals_fork (s : Bool) (c : Dev nD) (rr : ℕ) (h : Fin (len s)) (hr : h.val < rr) :
    arrivals X s c h.val rr ⊢ iprop(arrived X fullShare s c h ∗ (arrived X fullShare.right s c h -∗ arrivals X s c (h.val + 1) rr)) := by
  unfold arrivals
  refine (family_step (Ψ := fun j : Fin (len s) => if j.val < h.val + 1 then arrived X fullShare.right s c j else if j.val < rr then arrived X fullShare s c j
    else waiting s c j) h (fun j hj => ?_)).trans (Entails.of_eq ?_)
  · have := val_ne hj
    by_cases hf : j.val < h.val
    · rw [if_pos hf, if_pos (by omega)]
    · rw [if_neg hf, if_neg (show ¬ j.val < h.val + 1 by omega)]
  · rw [if_neg (Nat.lt_irrefl _), if_pos hr, if_pos (Nat.lt_succ_self _)]

/-- A slot that arrived can be borrowed at the share that is left of it. -/
theorem arrivals_borrow (s : Bool) (c : Dev nD) (fr rr : ℕ) (h : Fin (len s)) (hr : h.val < rr) :
    arrivals X s c fr rr ⊢ iprop(∃ q, got X s c h q ∗ (got X s c h q -∗ arrivals X s c fr rr)) := by
  unfold arrivals
  refine (family_step h (fun j _ => rfl)).trans ?_
  by_cases hf : h.val < fr
  · rw [if_pos hf]
    unfold arrived
    iintro ⟨⟨Hv, Hg⟩, Hk⟩
    iexists fullShare.right
    isplitl [Hg]; · iexact Hg
    iintro Hg
    iapply Hk
    isplitl [Hv] <;> iassumption
  · rw [if_neg hf, if_pos hr]
    unfold arrived
    iintro ⟨⟨Hv, Hg⟩, Hk⟩
    iexists fullShare
    isplitl [Hg]; · iexact Hg
    iintro Hg
    iapply Hk
    isplitl [Hv] <;> iassumption

/-! ## The three operations on the families -/

/-- Issue hop 0, out of the part of the own chunk set aside for it. -/
theorem wp_first (s : Bool) (c : Dev nD) {κ : GSem nD τ sig → ℕ} {I : sProp 𝕄} [BI.Persistent I] (hI : Knows X κ I) (h : Fin (len s)) (n : ℕ) (hn : h.val = n) (O : CellTallies nD τ sig Unit)
    (W : Waits sig Unit) (k : Pr F) (Q : PUnit → sProp 𝕄) :
    iprop(I ∗ lent X s c h ∗ sends X s c n 0 ∗ owes (c : Thread nD τ) (O + dues s c n) W)
      ⊢ iprop(((sends X s c (n + 1) 0 ∗ owes (c : Thread nD τ) (O + dues s c (n + 1)) W) -∗ wp frame (wpE (defs₀ (F := F)) 𝒱₀ c none) Set.univ k Q)
        -∗ wp frame (wpE (defs₀ (F := F)) 𝒱₀ c none) Set.univ (hop s (fwd s c) h k) Q) := by
  subst hn
  iintro ⟨#HI, Hl, HS, HO⟩ Hk
  ihave HS := (sends_issue X s c h) $$ HS
  icases HS with ⟨Ht, HS⟩
  iapply (wp_hop X s c h κ (O + dues s c (h.val + 1)) W k Q) $$ [Hl Ht HO]
  · isplitr; · iapply (hI _ (snd_mem s c h)); iexact HI
    isplitr; · iapply (hI _ (rcv_mem s (fwd s c) h)); iexact HI
    isplitl [Hl]; · iexact Hl
    isplitl [Ht]; · iexact Ht
    rw [add_assoc, ← dues_step s c h]; iexact HO
  iintro ⟨Hf, HO⟩
  iapply Hk
  isplitl [HS Hf]
  · iapply HS; iexact Hf
  iexact HO

omit [FloatOps F] in
/-- A later hop's source is the slot the hop before it filled. -/
theorem lent_succ (s : Bool) (c : Dev nD) (i h : Fin (len s)) (hh : h.val = i.val + 1) :
    lent X s c h = holds (slot s i) c fullShare.left (X (org s c (i.val + 1))) := by
  obtain ⟨h, hl⟩ := h
  obtain ⟨i, hi⟩ := i
  cases hh
  unfold lent
  rw [src_succ]
  rfl

/-- Issue hop `n + 1`, out of half of slot `n`. -/
theorem wp_next (s : Bool) (c : Dev nD) {κ : GSem nD τ sig → ℕ} {I : sProp 𝕄} [BI.Persistent I] (hI : Knows X κ I) (i h : Fin (len s)) (n : ℕ) (hi : i.val = n) (hh : h.val = n + 1)
    (O : CellTallies nD τ sig Unit) (W : Waits sig Unit) (k : Pr F) (Q : PUnit → sProp 𝕄) :
    iprop(I ∗ sends X s c (n + 1) 0 ∗ arrivals X s c n (n + 1) ∗ owes (c : Thread nD τ) (O + dues s c (n + 1)) W)
      ⊢ iprop(((sends X s c (n + 1 + 1) 0 ∗ arrivals X s c (n + 1) (n + 1) ∗ owes (c : Thread nD τ) (O + dues s c (n + 1 + 1)) W)
            -∗ wp frame (wpE (defs₀ (F := F)) 𝒱₀ c none) Set.univ k Q)
        -∗ wp frame (wpE (defs₀ (F := F)) 𝒱₀ c none) Set.univ (hop s (fwd s c) h k) Q) := by
  subst hi
  iintro ⟨#HI, HS, HA, HO⟩ Hk
  ihave HA := (arrivals_fork X s c (i.val + 1) i (Nat.lt_succ_self _)) $$ HA
  unfold arrived
  icases HA with ⟨⟨Hv, Hg⟩, HA⟩
  ihave Hg := (show got X s c i fullShare ⊢ _ from holds_split (slot s i) c fullShare (X (org s c (i.val + 1)))) $$ Hg
  icases Hg with ⟨Hg1, Hg2⟩
  ihave Hl := (Entails.of_eq (lent_succ X s c i h hh).symm) $$ Hg1
  iapply (wp_first X s c hI h (i.val + 1) hh O W k Q) $$ [Hl HS HO]
  · isplitr; · iexact HI
    isplitl [Hl]; · iexact Hl
    isplitl [HS]; · iexact HS
    iexact HO
  iintro ⟨HS, HO⟩
  iapply Hk
  isplitl [HS]; · iexact HS
  isplitl [HA Hv Hg2]
  · iapply HA
    unfold got
    isplitl [Hv] <;> iassumption
  iexact HO

/-- Wait for the arrival of hop `h`, owing nothing at or below its level. -/
theorem wp_land (s : Bool) (c : Dev nD) {κ : GSem nD τ sig → ℕ} {I : sProp 𝕄} [BI.Persistent I] (hI : Knows X κ I) (fr : ℕ) (h : Fin (len s)) (hfr : fr ≤ h.val) (a b : ℕ) (ha : h.val < a) (hb : h.val < b)
    (W : Waits sig Unit) (k : Pr F) (Q : PUnit → sProp 𝕄) :
    iprop(I ∗ levAts L lv ∗ arrivals X s c fr h.val ∗ owes (c : Thread nD τ) (dues true c a + dues false c b) W)
      ⊢ iprop(((arrivals X s c fr (h.val + 1) ∗ ∃ W', owes (c : Thread nD τ) (dues true c a + dues false c b) W')
            -∗ wp frame (wpE (defs₀ (F := F)) 𝒱₀ c none) Set.univ k Q)
        -∗ wp frame (wpE (defs₀ (F := F)) 𝒱₀ c none) Set.univ (recv s h k) Q) := by
  iintro ⟨#HI, #HL, HA, HO⟩ Hk
  ihave HA := (arrivals_land X s c fr h hfr) $$ HA
  icases HA with ⟨Hw, HA⟩
  iapply (wp_recv X s c h (κ (rcvCell s c h)) (dues true c a + dues false c b) W k Q) $$ [Hw HO]
  · isplitr; · iapply (hI _ (rcv_mem s c h)); iexact HI
    isplitl [Hw]; · iexact Hw
    isplitl [HO]; · iexact HO
    iapply (mayWait c (.dma (rcv s h)) a b (by rw [lv_rcv]; omega) (by rw [lv_rcv]; omega)); iexact HL
  iintro ⟨Hr, HO⟩
  iapply Hk
  isplitl [HA Hr]
  · iapply HA; iexact Hr
  iexact HO

/-- Wait for the departure of hop `h`, owing nothing. -/
theorem wp_depart (s : Bool) (c : Dev nD) {κ : GSem nD τ sig → ℕ} {I : sProp 𝕄} [BI.Persistent I] (hI : Knows X κ I) (h : Fin (len s)) (W : Waits sig Unit) (k : Pr F) (Q : PUnit → sProp 𝕄) :
    iprop(I ∗ sends X s c (len s) h.val ∗ owes (c : Thread nD τ) 0 W)
      ⊢ iprop(((sends X s c (len s) (h.val + 1) ∗ ∃ W', owes (c : Thread nD τ) 0 W') -∗ wp frame (wpE (defs₀ (F := F)) 𝒱₀ c none) Set.univ k Q)
        -∗ wp frame (wpE (defs₀ (F := F)) 𝒱₀ c none) Set.univ (sentWait s h k) Q) := by
  iintro ⟨#HI, HS, HO⟩ Hk
  ihave HS := (sends_depart X s c h) $$ HS
  icases HS with ⟨Hf, HS⟩
  iapply (wp_sent X s c h (κ (sndCell s c h)) W k Q) $$ [Hf HO]
  · isplitr; · iapply (hI _ (snd_mem s c h)); iexact HI
    isplitl [Hf]; · iexact Hf
    iexact HO
  iintro ⟨Hg, HO⟩
  iapply Hk
  isplitl [HS Hg]
  · iapply HS; iexact Hg
  iexact HO

end Cert.KernelIdeal.Ring

end
-- ==== Proof.Gemm.lean ====
/-
The products. The result block of a device is the rows that start at 128 times its number; a product stores one block, and the blocks
done so far are kept as a set of devices.
-/
module

public import proofs.«01_k».proof.Proof.Lanes
public import Idealize.ShloMosaic.Lib.Pipeline.Value
public import Idealize.ShloMosaic.Lib.ValueIdxCore

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Blocks of the result -/

theorem off2_word0 : ∀ o : Dev nD, k0_off2 (Dev.word o) 0 = o.val * 128 := by decide
theorem off2_word (o : Dev nD) : k0_off2 (Dev.word o) = ![o.val * 128, 0] := by
  rw [← off2_word0 o]; rfl
theorem off1_eq0 : ∀ o : Dev nD, k0_off1 o 0 = o.val * 128 := by decide
theorem off1_eq (o : Dev nD) : k0_off1 o = ![o.val * 128, 0] := by
  rw [← off1_eq0 o]; rfl

theorem block_inb (o : Dev nD) : ∀ a, (![o.val * 128, 0] : Fin 2 → ℕ) a + S128x256.size a ≤ S4096x256.size a := by revert o; decide
theorem chk3_word (o : Dev nD) : k0_chk3 (Dev.word o) := by
  unfold k0_chk3; rw [off2_word]; exact block_inb o

/-- The device whose block a row of the result lies in. -/
def blockOf (i : S4096x256.Idx) : Dev nD := ⟨(i 0).val / 128, by have h : (i 0).val < 4096 := (i 0).isLt; show (i 0).val / 128 < 32; omega⟩
/-- The place inside that block. -/
def inBlock (i : S4096x256.Idx) : S128x256.Idx := ix2 (⟨(i 0).val % 128, Nat.mod_lt _ (by decide)⟩ : Fin 128) (i 1)

variable (X : Dev nD → S128x4096.Idx → Elt F .fp8e4m3) (sc : F .f32) (B : S4096x256.Idx → Elt F .fp8e4m3)

/-- The whole result of a device: every chunk times the device's right factor, scaled. -/
def result (i : S4096x256.Idx) : F .f32 := k0_pay2 sc (X (blockOf i)) B (inBlock i)

theorem pay3_eq (a : S1x128x4096.Idx → Elt F .fp8e4m3) (b : S4096x256.Idx → Elt F .fp8e4m3) :
    k0_pay3 sc a b = k0_pay2 sc (shapeCast S128x4096 a shapeCasts_S1x128x4096_S128x4096) b := by
  unfold k0_pay3 k0_pay2
  simp only [shapeCast_self]

/-- Storing the block of device `o` adds `o` to the blocks done. -/
theorem store_block (S : Set (Dev nD)) (o : Dev nD) (off : Fin 2 → ℕ) (hoff : off = ![o.val * 128, 0]) (f : S4096x256.Idx → F .f32)
    (inb : ∀ a, off a + S128x256.size a ≤ S4096x256.size a)
    (hf : ∀ i, blockOf i ∈ S → f i = result X sc B i) (i : S4096x256.Idx) (hi : blockOf i ∈ insert o S) :
    updateSlice f (k0_pay2 sc (X o) B) off ⟨rfl, inb⟩ i = result X sc B i := by
  subst hoff
  unfold updateSlice
  split
  · next hin =>
    have h0 : o.val * 128 ≤ (i 0).val ∧ (i 0).val < o.val * 128 + 128 := hin 0
    have hb : blockOf i = o := Fin.ext (by show (i 0).val / 128 = o.val; omega)
    unfold result
    rw [hb]
    congr 1
    funext a
    match a with
    | ⟨0, _⟩ => exact Fin.ext (by show (i 0).val - o.val * 128 = (i 0).val % 128; omega)
    | ⟨1, _⟩ => exact Fin.ext (by show (i 1).val - 0 = (i 1).val; omega)
  · next hin =>
    refine hf i (hi.resolve_left fun hb => hin ?_)
    have hb' : (i 0).val / 128 = o.val := congrArg Fin.val hb
    intro a
    match a with
    | ⟨0, _⟩ => show o.val * 128 ≤ (i 0).val ∧ (i 0).val < o.val * 128 + 128; omega
    | ⟨1, _⟩ => exact ⟨Nat.zero_le _, by show (i 1).val < 0 + 256; have h1 : (i 1).val < 256 := (i 1).isLt; omega⟩

/-! ## The state of the products -/

/-- The result buffer of device `c`, right on the blocks of `S`. -/
def done (c : Dev nD) (S : Set (Dev nD)) : sProp 𝕄 :=
  iprop(∃ f : Buf (Elt F) (oM.view.loc (c : Thread nD τ)), ⌜∀ i : S4096x256.Idx, blockOf i ∈ S → f i = result X sc B i⌝
    ∗ (oM.view.loc (c : Thread nD τ) ↦[Finset.univ]{fullShare} f))

/-- The right factor. -/
def factor (c : Dev nD) : sProp 𝕄 := (wM.view.loc (c : Thread nD τ) ↦[Finset.univ]{fullShare} B)

/-- The tables of where the slots' chunks came from. -/
def table (s : Bool) (c : Dev nD) : sProp 𝕄 := match s with
  | true => iprop(∃ f : Buf (Elt F) (orM.view.loc (c : Thread nD τ)),
      ⌜∀ j : Fin 16, (orM.access (Rect.unit (s := S16) ![j.val] S1.size (inb16 j))).read (Elt F) f (Shape.Idx.first (numel1_S1.symm ▸ Nat.one_pos))
        = Dev.word (org true c (j.val + 1))⌝ ∗ (orM.view.loc (c : Thread nD τ) ↦[Finset.univ]{fullShare} f))
  | false => iprop(∃ f : Buf (Elt F) (olM.view.loc (c : Thread nD τ)),
      ⌜∀ j : Fin 15, (olM.access (Rect.unit (s := S15) ![j.val] S1.size (inb15 j))).read (Elt F) f (Shape.Idx.first (numel1_S1.symm ▸ Nat.one_pos))
        = Dev.word (org false c (j.val + 1))⌝ ∗ (olM.view.loc (c : Thread nD τ) ↦[Finset.univ]{fullShare} f))

/-- A product from the word of its block on. -/
def tail (a : S1x128x4096.Idx → Elt F .fp8e4m3) (v : BitVec 32) (k : Pr F) : Pr F :=
  .op (TpuEff.assume (k0_chk3 v) (k0_chk3.dec v)) fun hv =>
  .op (.load wM wRect.toLoadRect (View.loadsAt_vmem h_S4096x256)) fun b =>
  .op (.load oM (oRect v hv.down).toLoadRect (View.loadsAt_vmem h_S128x256)) fun _ =>
  .op (.store oM (oRect v hv.down) (k0_pay3 sc a b) Finset.univ (View.stores_vmem_bits_univ h_S128x256 rfl) (.inl rfl)) fun _ => k

theorem read_factor (c : Dev nD) (f : Buf (Elt F) (wM.view.loc (c : Thread nD τ))) : (wM.access wRect).read (Elt F) f = f :=
  Memref.read_access_unit_zero (Elt F) cc0_stg1_0 (by funext a; fin_cases a <;> rfl) inb_S4096x256_S4096x256_0_0 f

theorem wp_tail (c o : Dev nD) (S : Set (Dev nD)) (a : S1x128x4096.Idx → Elt F .fp8e4m3) (ha : shapeCast S128x4096 a shapeCasts_S1x128x4096_S128x4096 = X o)
    (v : BitVec 32) (hv : v = Dev.word o) (k : Pr F) (Q : PUnit → sProp 𝕄) :
    iprop(factor B c ∗ done X sc B c S)
      ⊢ iprop(((factor B c ∗ done X sc B c (insert o S)) -∗ wp frame (wpE (defs₀ (F := F)) 𝒱₀ c none) Set.univ k Q)
        -∗ wp frame (wpE (defs₀ (F := F)) 𝒱₀ c none) Set.univ (tail sc a v k) Q) := by
  subst hv
  unfold tail factor done
  iintro ⟨Hw, ⟨%f, %hf, Ho⟩⟩ Hk
  rw [wp_assume_of 𝒱₀ (c : Thread nD τ) none Set.univ (chk3_word o)]
  iapply (wp_load_rect 𝒱₀ (c : Thread nD τ) none Set.univ (m := wM) (r := wRect) (S := Finset.univ) (Finset.subset_univ _)) $$ Hw
  iintro Hw
  rw [read_factor c]
  iapply (wp_load_rect 𝒱₀ (c : Thread nD τ) none Set.univ (m := oM) (r := oRect (Dev.word o) (chk3_word o)) (S := Finset.univ) (f := f) (Finset.subset_univ _)) $$ Ho
  iintro Ho
  iapply (wp_store 𝒱₀ (c : Thread nD τ) none Set.univ (m := oM) (r := oRect (Dev.word o) (chk3_word o)) (S := Finset.univ) (f := f) (Finset.subset_univ _)) $$ Ho
  iintro Ho
  iapply Hk
  isplitl [Hw]; · iexact Hw
  iexists ((oM.access (oRect (Dev.word o) (chk3_word o))).write (Elt F) f (k0_pay3 sc a B) Finset.univ : Buf (Elt F) (oM.view.loc (c : Thread nD τ)))
  isplitr
  · ipureintro
    intro i hi
    rw [pay3_eq, ha]
    refine (congrFun (View.write_whole_slice_unit cc0_stg8_0 _ _ _ f _) i).trans ?_
    exact store_block X sc B S o _ (off2_word o) f (k0_off2_inb _ (chk3_word o)) hf i hi
  · iexact Ho

abbrev xRect : Rect S128x4096 := Rect.unit (s := S128x4096) ![0, 0] S128x4096.size inb_S128x4096_S128x4096_0_0
abbrev ownRect (c : Dev nD) : Rect S4096x256 := Rect.unit (s := S4096x256) (k0_off1 c) S128x256.size (k0_off1_inb c)

/-- The product of the own chunk. -/
theorem wp_gemm0 (c : Dev nD) (q : PosShare TreeShare) (S : Set (Dev nD)) (k : Pr F) (Q : PUnit → sProp 𝕄) :
    iprop(holds xM c q (X c) ∗ factor B c ∗ done X sc B c S)
      ⊢ iprop(((holds xM c q (X c) ∗ factor B c ∗ done X sc B c (insert c S)) -∗ wp frame (wpE (defs₀ (F := F)) 𝒱₀ c none) Set.univ k Q)
        -∗ wp frame (wpE (defs₀ (F := F)) 𝒱₀ c none) Set.univ (gemm0 c sc k) Q) := by
  unfold gemm0 factor done holds
  iintro ⟨⟨%x, %hx, Hx⟩, Hw, ⟨%f, %hf, Ho⟩⟩ Hk
  iapply (wp_load_rect 𝒱₀ (c : Thread nD τ) none Set.univ (m := xM) (r := xRect) (S := xM.view.set) (f := x) (View.set_slice_subset _ _)) $$ Hx
  iintro Hx
  rw [show (xM.access xRect).read (Elt F) x = X c from
    (Memref.read_access_unit_zero (Elt F) cc0_stg0_0 (by funext a; fin_cases a <;> rfl) inb_S128x4096_S128x4096_0_0 x).trans hx]
  iapply (wp_load_rect 𝒱₀ (c : Thread nD τ) none Set.univ (m := wM) (r := wRect) (S := Finset.univ) (Finset.subset_univ _)) $$ Hw
  iintro Hw
  rw [read_factor c]
  iapply (wp_load_rect 𝒱₀ (c : Thread nD τ) none Set.univ (m := oM) (r := ownRect c) (S := Finset.univ) (f := f) (Finset.subset_univ _)) $$ Ho
  iintro Ho
  iapply (wp_store 𝒱₀ (c : Thread nD τ) none Set.univ (m := oM) (r := ownRect c) (S := Finset.univ) (f := f) (Finset.subset_univ _)) $$ Ho
  iintro Ho
  iapply Hk
  isplitl [Hx]
  · iexists x; isplitr
    · ipureintro; exact hx
    · iexact Hx
  isplitl [Hw]; · iexact Hw
  iexists ((oM.access (ownRect c)).write (Elt F) f (k0_pay2 sc (X c) B) Finset.univ : Buf (Elt F) (oM.view.loc (c : Thread nD τ)))
  isplitr
  · ipureintro
    intro i hi
    refine (congrFun (View.write_whole_slice_unit cc0_stg8_0 _ _ _ f _) i).trans ?_
    exact store_block X sc B S c _ (off1_eq c) f (k0_off1_inb c) hf i hi
  · iexact Ho

theorem sR_set (j : Fin 16) : (sR j).view.set = (crM.access (rectR j)).set := View.set_reshape _ _
theorem sL_set (j : Fin 15) : (sL j).view.set = (clM.access (rectL j)).set := View.set_reshape _ _

omit [FloatOps F] in
theorem got_right (c : Dev nD) (j : Fin 16) (q : PosShare TreeShare) :
    got X true c j q = (iprop(∃ f : Buf (Elt F) ((crM.access (rectR j)).loc (c : Thread nD τ)),
      ⌜shapeCast S128x4096 ((crM.access (rectR j)).read (Elt F) f) shapeCasts_S1x128x4096_S128x4096 = X (org true c (j.val + 1))⌝
        ∗ ((crM.access (rectR j)).loc (c : Thread nD τ) ↦[(crM.access (rectR j)).set]{q} f)) : sProp 𝕄) := by
  rw [← sR_set]; rfl
omit [FloatOps F] in
theorem got_left (c : Dev nD) (j : Fin 15) (q : PosShare TreeShare) :
    got X false c j q = (iprop(∃ f : Buf (Elt F) ((clM.access (rectL j)).loc (c : Thread nD τ)),
      ⌜shapeCast S128x4096 ((clM.access (rectL j)).read (Elt F) f) shapeCasts_S1x128x4096_S128x4096 = X (org false c (j.val + 1))⌝
        ∗ ((clM.access (rectL j)).loc (c : Thread nD τ) ↦[(clM.access (rectL j)).set]{q} f)) : sProp 𝕄) := by
  rw [← sL_set]; rfl

/-- The product of a slot, in either direction. -/
def gemm : (s : Bool) → F .f32 → Fin (len s) → Pr F → Pr F
  | true, sc, j, k => gemmR sc j k
  | false, sc, j, k => gemmL sc j k

theorem wp_gemm_slot (s : Bool) (c : Dev nD) (j : Fin (len s)) (q : PosShare TreeShare) (S : Set (Dev nD)) (k : Pr F) (Q : PUnit → sProp 𝕄) :
    iprop(got X s c j q ∗ table s c ∗ factor B c ∗ done X sc B c S)
      ⊢ iprop(((got X s c j q ∗ table s c ∗ factor B c ∗ done X sc B c (insert (org s c (j.val + 1)) S))
            -∗ wp frame (wpE (defs₀ (F := F)) 𝒱₀ c none) Set.univ k Q)
        -∗ wp frame (wpE (defs₀ (F := F)) 𝒱₀ c none) Set.univ (gemm s sc j k) Q) := by
  cases s with
  | true =>
    rw [show got X true c j q = _ from got_right X c j q, show gemm true sc j k = gemmR sc j k from rfl]
    unfold table gemmR
    iintro ⟨⟨%x, %hx, Hx⟩, ⟨%f, %hf, Ht⟩, Hw, Ho⟩ Hk
    iapply (wp_load_rect 𝒱₀ (c : Thread nD τ) none Set.univ (m := crM) (r := rectR j) (f := x) subset_rfl) $$ Hx
    iintro Hx
    iapply (wp_smemLoadElt 𝒱₀ (c : Thread nD τ) none Set.univ (m := orM) (r := Rect.unit (s := S16) ![j.val] S1.size (inb16 j)) (S := Finset.univ) (f := f) (Finset.subset_univ _)) $$ Ht
    iintro Ht
    iapply (wp_tail X sc B c (org true c (j.val + 1)) S _ hx _ (hf j) k Q) $$ [Hw Ho]
    · isplitl [Hw] <;> iassumption
    iintro ⟨Hw, Ho⟩
    iapply Hk
    isplitl [Hx]
    · iexists x; isplitr
      · ipureintro; exact hx
      · iexact Hx
    isplitl [Ht]
    · iexists f; isplitr
      · ipureintro; exact hf
      · iexact Ht
    isplitl [Hw] <;> iassumption
  | false =>
    rw [show got X false c j q = _ from got_left X c j q, show gemm false sc j k = gemmL sc j k from rfl]
    unfold table gemmL
    iintro ⟨⟨%x, %hx, Hx⟩, ⟨%f, %hf, Ht⟩, Hw, Ho⟩ Hk
    iapply (wp_load_rect 𝒱₀ (c : Thread nD τ) none Set.univ (m := clM) (r := rectL j) (f := x) subset_rfl) $$ Hx
    iintro Hx
    iapply (wp_smemLoadElt 𝒱₀ (c : Thread nD τ) none Set.univ (m := olM) (r := Rect.unit (s := S15) ![j.val] S1.size (inb15 j)) (S := Finset.univ) (f := f) (Finset.subset_univ _)) $$ Ht
    iintro Ht
    iapply (wp_tail X sc B c (org false c (j.val + 1)) S _ hx _ (hf j) k Q) $$ [Hw Ho]
    · isplitl [Hw] <;> iassumption
    iintro ⟨Hw, Ho⟩
    iapply Hk
    isplitl [Hx]
    · iexists x; isplitr
      · ipureintro; exact hx
      · iexact Hx
    isplitl [Ht]
    · iexists f; isplitr
      · ipureintro; exact hf
      · iexact Ht
    isplitl [Hw] <;> iassumption

end Cert.KernelIdeal.Ring

end
-- ==== Proof.Stages.lean ====
/-
From the first hop to the last departure: the stages, and what is held between them.
-/
module

public import proofs.«01_k».proof.Proof.Gemm

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The blocks done once the own chunk, the first `a` chunks from the left and the first `b` from the right have been used. -/
def blocks (c : Dev nD) (a b : ℕ) : Set (Dev nD) :=
  {o | o = c ∨ (∃ k, k < a ∧ o = org true c (k + 1)) ∨ (∃ k, k < b ∧ o = org false c (k + 1))}

theorem blocks_zero (c : Dev nD) : blocks c 0 0 ⊆ insert c ∅ := by
  rintro o (h | ⟨k, hk, -⟩ | ⟨k, hk, -⟩)
  · exact Or.inl h
  · exact absurd hk (Nat.not_lt_zero _)
  · exact absurd hk (Nat.not_lt_zero _)

theorem blocks_right (c : Dev nD) (a b : ℕ) : blocks c (a + 1) b ⊆ insert (org true c (a + 1)) (blocks c a b) := by
  rintro o (h | ⟨k, hk, h⟩ | h)
  · exact Or.inr (Or.inl h)
  · rcases Nat.lt_succ_iff_lt_or_eq.mp hk with hk | rfl
    · exact Or.inr (Or.inr (Or.inl ⟨k, hk, h⟩))
    · exact Or.inl h
  · exact Or.inr (Or.inr (Or.inr h))

theorem blocks_left (c : Dev nD) (a b : ℕ) : blocks c a (b + 1) ⊆ insert (org false c (b + 1)) (blocks c a b) := by
  rintro o (h | h | ⟨k, hk, h⟩)
  · exact Or.inr (Or.inl h)
  · exact Or.inr (Or.inr (Or.inl h))
  · rcases Nat.lt_succ_iff_lt_or_eq.mp hk with hk | rfl
    · exact Or.inr (Or.inr (Or.inr ⟨k, hk, h⟩))
    · exact Or.inl h

theorem blocks_all (c o : Dev nD) : o ∈ blocks c 16 15 := by
  rcases org_cover c o with h | ⟨j, h⟩ | ⟨j, h⟩
  · exact Or.inl h
  · exact Or.inr (Or.inl ⟨j.val, j.isLt, h⟩)
  · exact Or.inr (Or.inr ⟨j.val, j.isLt, h⟩)

variable (X : Dev nD → S128x4096.Idx → Elt F .fp8e4m3) (sc : F .f32) (B : S4096x256.Idx → Elt F .fp8e4m3)

theorem done_mono (c : Dev nD) {S S' : Set (Dev nD)} (h : S' ⊆ S) : done X sc B c S ⊢ (done X sc B c S' : sProp 𝕄) := by
  unfold done
  iintro ⟨%f, %hf, H⟩
  iexists f
  isplitr
  · ipureintro; exact fun i hi => hf i (h hi)
  · iexact H

/-- The tables, the right factor, and the blocks done. -/
def prods (c : Dev nD) (a b : ℕ) : sProp 𝕄 := iprop(table true c ∗ table false c ∗ factor B c ∗ done X sc B c (blocks c a b))

/-- Multiply slot `j` that came from the left. -/
theorem wp_gemm_right (c : Dev nD) (j : Fin (len true)) (n : ℕ) (hn : j.val = n) (fr rr b : ℕ) (hr : n < rr) (k : Pr F) (Q : PUnit → sProp 𝕄) :
    iprop(arrivals X true c fr rr ∗ prods X sc B c n b)
      ⊢ iprop(((arrivals X true c fr rr ∗ prods X sc B c (n + 1) b) -∗ wp frame (wpE (defs₀ (F := F)) 𝒱₀ c none) Set.univ k Q)
        -∗ wp frame (wpE (defs₀ (F := F)) 𝒱₀ c none) Set.univ (gemm true sc j k) Q) := by
  subst hn
  unfold prods
  iintro ⟨HA, Ht, Hl, Hw, Ho⟩ Hk
  ihave HA := (arrivals_borrow X true c fr rr j hr) $$ HA
  icases HA with ⟨%q, Hg, HA⟩
  iapply (wp_gemm_slot X sc B true c j q (blocks c j.val b) k Q) $$ [Hg Ht Hw Ho]
  · isplitl [Hg]; · iexact Hg
    isplitl [Ht]; · iexact Ht
    isplitl [Hw] <;> iassumption
  iintro ⟨Hg, Ht, Hw, Ho⟩
  iapply Hk
  isplitl [HA Hg]
  · iapply HA; iexact Hg
  isplitl [Ht]; · iexact Ht
  isplitl [Hl]; · iexact Hl
  isplitl [Hw]; · iexact Hw
  iapply (done_mono X sc B c (blocks_right c j.val b)); iexact Ho

/-- Multiply slot `j` that came from the right. -/
theorem wp_gemm_left (c : Dev nD) (j : Fin (len false)) (n : ℕ) (hn : j.val = n) (fr rr a : ℕ) (hr : n < rr) (k : Pr F) (Q : PUnit → sProp 𝕄) :
    iprop(arrivals X false c fr rr ∗ prods X sc B c a n)
      ⊢ iprop(((arrivals X false c fr rr ∗ prods X sc B c a (n + 1)) -∗ wp frame (wpE (defs₀ (F := F)) 𝒱₀ c none) Set.univ k Q)
        -∗ wp frame (wpE (defs₀ (F := F)) 𝒱₀ c none) Set.univ (gemm false sc j k) Q) := by
  subst hn
  unfold prods
  iintro ⟨HA, Ht, Hl, Hw, Ho⟩ Hk
  ihave HA := (arrivals_borrow X false c fr rr j hr) $$ HA
  icases HA with ⟨%q, Hg, HA⟩
  iapply (wp_gemm_slot X sc B false c j q (blocks c a j.val) k Q) $$ [Hg Hl Hw Ho]
  · isplitl [Hg]; · iexact Hg
    isplitl [Hl]; · iexact Hl
    isplitl [Hw] <;> iassumption
  iintro ⟨Hg, Hl, Hw, Ho⟩
  iapply Hk
  isplitl [HA Hg]
  · iapply HA; iexact Hg
  isplitl [Ht]; · iexact Ht
  isplitl [Hl]; · iexact Hl
  isplitl [Hw]; · iexact Hw
  iapply (done_mono X sc B c (blocks_left c a j.val)); iexact Ho

/-! ## The state between stages -/

/-- Hop `n` has arrived from both sides, and the chunks before it have been used. -/
def mid (c : Dev nD) (n : ℕ) : sProp 𝕄 :=
  iprop(sends X true c (n + 1) 0 ∗ sends X false c (n + 1) 0 ∗ arrivals X true c n (n + 1) ∗ arrivals X false c n (n + 1)
    ∗ prods X sc B c n n ∗ ∃ W, owes (c : Thread nD τ) (dues true c (n + 1) + dues false c (n + 1)) W)

theorem wp_stage {κ : GSem nD τ sig → ℕ} {I : sProp 𝕄} [BI.Persistent I] (hI : Knows X κ I) (c : Dev nD) (h : Fin 14) (n : ℕ) (hn : h.val = n) (k : Pr F) (Q : PUnit → sProp 𝕄) :
    iprop(I ∗ levAts L lv ∗ mid X sc B c n)
      ⊢ iprop((mid X sc B c (n + 1) -∗ wp frame (wpE (defs₀ (F := F)) 𝒱₀ c none) Set.univ k Q)
        -∗ wp frame (wpE (defs₀ (F := F)) 𝒱₀ c none) Set.univ (stage (fwd false c) (fwd true c) sc h k) Q) := by
  have hlt := h.isLt
  unfold stage mid
  rw [hopR_eq, hopL_eq, recvR_eq, recvL_eq]
  iintro ⟨#HI, #HL, HSR, HSL, HAR, HAL, HP, ⟨%W, HO⟩⟩ Hk
  rw [add_comm (dues true c (n + 1)) (dues false c (n + 1))]
  iapply (wp_next X true c hI ⟨h.val, by show _ < 16; omega⟩ ⟨h.val + 1, by show _ < 16; omega⟩ n hn (congrArg (· + 1) hn) (dues false c (n + 1)) W) $$ [HSR HAR HO]
  · isplitr; · iexact HI
    isplitl [HSR]; · iexact HSR
    isplitl [HAR] <;> iassumption
  iintro ⟨HSR, HAR, HO⟩
  rw [add_comm (dues false c (n + 1)) (dues true c (n + 1 + 1))]
  iapply (wp_next X false c hI ⟨h.val, by show _ < 15; omega⟩ ⟨h.val + 1, by show _ < 15; omega⟩ n hn (congrArg (· + 1) hn) (dues true c (n + 1 + 1)) W) $$ [HSL HAL HO]
  · isplitr; · iexact HI
    isplitl [HSL]; · iexact HSL
    isplitl [HAL] <;> iassumption
  iintro ⟨HSL, HAL, HO⟩
  iapply (wp_gemm_right X sc B c ⟨h.val, by show _ < 16; omega⟩ n hn (n + 1) (n + 1) n (Nat.lt_succ_self n)) $$ [HAR HP]
  · isplitl [HAR] <;> iassumption
  iintro ⟨HAR, HP⟩
  iapply (wp_gemm_left X sc B c ⟨h.val, by show _ < 15; omega⟩ n hn (n + 1) (n + 1) (n + 1) (Nat.lt_succ_self n)) $$ [HAL HP]
  · isplitl [HAL] <;> iassumption
  iintro ⟨HAL, HP⟩
  subst hn
  iapply (wp_land X true c hI (h.val + 1) ⟨h.val + 1, by show _ < 16; omega⟩ le_rfl (h.val + 1 + 1) (h.val + 1 + 1) (Nat.lt_succ_self _) (Nat.lt_succ_self _) W) $$ [HAR HO]
  · isplitr; · iexact HI
    isplitr; · iexact HL
    isplitl [HAR] <;> iassumption
  iintro ⟨HAR, ⟨%W1, HO⟩⟩
  iapply (wp_land X false c hI (h.val + 1) ⟨h.val + 1, by show _ < 15; omega⟩ le_rfl (h.val + 1 + 1) (h.val + 1 + 1) (Nat.lt_succ_self _) (Nat.lt_succ_self _) W1) $$ [HAL HO]
  · isplitr; · iexact HI
    isplitr; · iexact HL
    isplitl [HAL] <;> iassumption
  iintro ⟨HAL, HO⟩
  iapply Hk
  isplitl [HSR]; · iexact HSR
  isplitl [HSL]; · iexact HSL
  isplitl [HAR]; · iexact HAR
  isplitl [HAL]; · iexact HAL
  isplitl [HP]; · iexact HP
  iexact HO

theorem wp_stages {κ : GSem nD τ sig → ℕ} {I : sProp 𝕄} [BI.Persistent I] (hI : Knows X κ I) (c : Dev nD) (k : Pr F) (Q : PUnit → sProp 𝕄) : ∀ (n : ℕ) (hn : n ≤ 14),
    iprop(I ∗ levAts L lv ∗ mid X sc B c (14 - n))
      ⊢ iprop((mid X sc B c 14 -∗ wp frame (wpE (defs₀ (F := F)) 𝒱₀ c none) Set.univ k Q)
        -∗ wp frame (wpE (defs₀ (F := F)) 𝒱₀ c none) Set.univ (stages (fwd false c) (fwd true c) sc n hn k) Q)
  | 0, _ => by
    unfold stages
    iintro ⟨-, -, H⟩ Hk
    iapply Hk; iexact H
  | n + 1, hn => by
    have h1 : 13 - n < 14 := by omega
    have h2 : 13 - n = 14 - (n + 1) := by omega
    have h3 : n ≤ 14 := by omega
    unfold stages
    iintro ⟨#HI, #HL, H⟩ Hk
    iapply (wp_stage X sc B hI c ⟨13 - n, h1⟩ (14 - (n + 1)) h2) $$ [H]
    · isplitr; · iexact HI
      isplitr; · iexact HL
      iexact H
    iintro H
    rw [show 14 - (n + 1) + 1 = 14 - n by omega]
    iapply (wp_stages hI c k Q n h3) $$ [H]
    · isplitr; · iexact HI
      isplitr; · iexact HL
      iexact H
    iexact Hk

/-- Every hop has arrived, and every chunk has been used. -/
def final (c : Dev nD) (n : ℕ) : sProp 𝕄 :=
  iprop(sends X true c 16 n ∗ sends X false c 15 n ∗ arrivals X true c 15 16 ∗ arrivals X false c 14 15
    ∗ prods X sc B c 16 15 ∗ ∃ W, owes (c : Thread nD τ) 0 W)

theorem wp_lastStage {κ : GSem nD τ sig → ℕ} {I : sProp 𝕄} [BI.Persistent I] (hI : Knows X κ I) (c : Dev nD) (k : Pr F) (Q : PUnit → sProp 𝕄) :
    iprop(I ∗ levAts L lv ∗ mid X sc B c 14)
      ⊢ iprop((final X sc B c 0 -∗ wp frame (wpE (defs₀ (F := F)) 𝒱₀ c none) Set.univ k Q)
        -∗ wp frame (wpE (defs₀ (F := F)) 𝒱₀ c none) Set.univ (lastStage (fwd true c) sc k) Q) := by
  unfold lastStage mid final
  rw [hopR_eq, recvR_eq]
  iintro ⟨#HI, #HL, HSR, HSL, HAR, HAL, HP, ⟨%W, HO⟩⟩ Hk
  rw [add_comm (dues true c (14 + 1)) (dues false c (14 + 1))]
  iapply (wp_next X true c hI (14 : Fin 16) (15 : Fin 16) 14 rfl rfl (dues false c (14 + 1)) W) $$ [HSR HAR HO]
  · isplitr; · iexact HI
    isplitl [HSR]; · iexact HSR
    isplitl [HAR] <;> iassumption
  iintro ⟨HSR, HAR, HO⟩
  iapply (wp_gemm_right X sc B c (14 : Fin 16) 14 rfl (14 + 1) (14 + 1) 14 (by decide)) $$ [HAR HP]
  · isplitl [HAR] <;> iassumption
  iintro ⟨HAR, HP⟩
  iapply (wp_gemm_left X sc B c (14 : Fin 15) 14 rfl 14 (14 + 1) (14 + 1) (by decide)) $$ [HAL HP]
  · isplitl [HAL] <;> iassumption
  iintro ⟨HAL, HP⟩
  rw [dues_end false c (14 + 1) (by decide), zero_add, ← add_zero (dues true c (14 + 1 + 1)), ← dues_end false c (14 + 1 + 1) (by decide)]
  iapply (wp_land X true c hI (14 + 1) (15 : Fin 16) (by decide) (14 + 1 + 1) (14 + 1 + 1) (by decide) (by decide) W) $$ [HAR HO]
  · isplitr; · iexact HI
    isplitr; · iexact HL
    isplitl [HAR]; · iexact HAR
    iexact HO
  iintro ⟨HAR, ⟨%W1, HO⟩⟩
  iapply (wp_gemm_right X sc B c (15 : Fin 16) (14 + 1) rfl (14 + 1) (14 + 1 + 1) (14 + 1) (by decide)) $$ [HAR HP]
  · isplitl [HAR]; · iexact HAR
    iexact HP
  iintro ⟨HAR, HP⟩
  iapply Hk
  isplitl [HSR]; · iexact HSR
  isplitl [HSL]; · iexact HSL
  isplitl [HAR]; · iexact HAR
  isplitl [HAL]; · iexact HAL
  isplitl [HP]; · iexact HP
  iexists W1
  rw [dues_end true c (14 + 1 + 1) (by decide), dues_end false c (14 + 1 + 1) (by decide), add_zero]
  iexact HO

/-- Every departure has been waited for as well. -/
def over (c : Dev nD) : sProp 𝕄 :=
  iprop(sends X true c 16 16 ∗ sends X false c 15 15 ∗ arrivals X true c 15 16 ∗ arrivals X false c 14 15
    ∗ prods X sc B c 16 15 ∗ ∃ W, owes (c : Thread nD τ) 0 W)

theorem wp_sents {κ : GSem nD τ sig → ℕ} {I : sProp 𝕄} [BI.Persistent I] (hI : Knows X κ I) (c : Dev nD) (k : Pr F) (Q : PUnit → sProp 𝕄) : ∀ (n : ℕ) (hn : n ≤ 15),
    iprop(I ∗ final X sc B c (15 - n))
      ⊢ iprop((over X sc B c -∗ wp frame (wpE (defs₀ (F := F)) 𝒱₀ c none) Set.univ k Q)
        -∗ wp frame (wpE (defs₀ (F := F)) 𝒱₀ c none) Set.univ (sents n hn k) Q)
  | 0, _ => by
    unfold sents final over
    rw [sentR_eq]
    iintro ⟨#HI, HSR, HSL, HAR, HAL, HP, ⟨%W, HO⟩⟩ Hk
    iapply (wp_depart X true c hI (15 : Fin 16) W) $$ [HSR HO]
    · isplitr; · iexact HI
      isplitl [HSR]; · iexact HSR
      iexact HO
    iintro ⟨HSR, HO⟩
    iapply Hk
    isplitl [HSR]; · iexact HSR
    isplitl [HSL]; · iexact HSL
    isplitl [HAR]; · iexact HAR
    isplitl [HAL]; · iexact HAL
    isplitl [HP] <;> iassumption
  | n + 1, hn => by
    have ih := wp_sents hI c k Q n (by omega)
    rw [show 15 - n = 14 - n + 1 by omega] at ih
    rw [show 15 - (n + 1) = 14 - n by omega]
    unfold sents final
    unfold final at ih
    rw [sentR_eq, sentL_eq]
    iintro ⟨#HI, HSR, HSL, HAR, HAL, HP, ⟨%W, HO⟩⟩ Hk
    iapply (wp_depart X true c hI ⟨14 - n, by show _ < 16; omega⟩ W) $$ [HSR HO]
    · isplitr; · iexact HI
      isplitl [HSR]; · iexact HSR
      iexact HO
    iintro ⟨HSR, ⟨%W1, HO⟩⟩
    iapply (wp_depart X false c hI ⟨14 - n, by show _ < 15; omega⟩ W1) $$ [HSL HO]
    · isplitr; · iexact HI
      isplitl [HSL]; · iexact HSL
      iexact HO
    iintro ⟨HSL, HO⟩
    iapply ih $$ [HSR HSL HAR HAL HP HO]
    · isplitr; · iexact HI
      isplitl [HSR]; · iexact HSR
      isplitl [HSL]; · iexact HSL
      isplitl [HAR]; · iexact HAR
      isplitl [HAL]; · iexact HAL
      isplitl [HP] <;> iassumption
    iexact Hk

end Cert.KernelIdeal.Ring

end
-- ==== Proof.Slots.lean ====
/-
What the families come to at the end: every semaphore back at zero, every slot and the own chunk whole again.
-/
module

public import proofs.«01_k».proof.Proof.Stages

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Taking the first member out of a family -/

omit [FloatOps F] in
/-- A family over `n + 1` members: the first one, and at each member the next one. -/
theorem family_shift : ∀ (n : ℕ) (Φ : Fin (n + 1) → sProp 𝕄),
    bigSep Finset.univ Φ ⊢ iprop(Φ 0 ∗ bigSep Finset.univ fun h : Fin (n + 1) => if hh : h.val + 1 < n + 1 then Φ ⟨h.val + 1, hh⟩ else iprop(emp)) := by
  intro n Φ
  rw [Fin.univ_succ, Finset.cons_eq_insert, bigSep_insert (by simp), bigSep_map]
  rw [← Finset.cons_eq_insert _ _ (by simp), ← Fin.univ_succ, Fin.univ_castSuccEmb, Finset.cons_eq_insert, bigSep_insert (by simp), bigSep_map]
  refine sep_mono .rfl ?_
  rw [dif_neg (by simp)]
  have hm : (bigSep Finset.univ fun h : Fin n => Φ (Fin.succEmb n h))
      ⊢ bigSep Finset.univ fun h : Fin n => if hh : (Fin.castSuccEmb h).val + 1 < n + 1 then Φ ⟨(Fin.castSuccEmb h).val + 1, hh⟩ else iprop(emp) :=
    bigSep_mono fun h _ => by
      have hlt : (Fin.castSuccEmb h).val + 1 < n + 1 := Nat.succ_lt_succ h.isLt
      rw [dif_pos hlt]
      exact Entails.of_eq (PROP := sProp 𝕄) rfl
  have he : ∀ P : sProp 𝕄, P ⊢ iprop(emp ∗ P) := fun P => by
    iintro H
    isplitr
    · iempintro
    · iexact H
  exact BI.Entails.trans hm (he _)

variable (X : Dev nD → S128x4096.Idx → Elt F .fp8e4m3)

omit [FloatOps F] in
theorem holds_any (M : Memref sig .tc .vmem S128x4096 .fp8e4m3) (c : Dev nD) (Y : S128x4096.Idx → Elt F .fp8e4m3) :
    (holds M c fullShare Y : sProp 𝕄) ⊢ anyAt M c := by
  unfold holds anyAt
  iintro ⟨%f, -, H⟩
  iexists f; iexact H

/-- Once everything has arrived and departed. -/
theorem collapse (s : Bool) (c : Dev nD) :
    iprop(sends X s c (len s) (len s) ∗ arrivals X s c (len s - 1) (len s))
      ⊢ iprop((bigSep Finset.univ fun h : Fin (len s) => iprop(semVal (sndCell s c h) 0 ∗ semVal (rcvCell s c h) 0))
        ∗ lent X s c ⟨0, len_pos s⟩ ∗ (bigSep Finset.univ fun h : Fin (len s) => anyAt (slot s h) c) : sProp 𝕄) := by
  have hs : sends X s c (len s) (len s) = bigSep Finset.univ fun h : Fin (len s) => gone X s c h := by
    unfold sends
    exact bigSep_congr fun h _ => if_pos h.isLt
  have ha : arrivals X s c (len s - 1) (len s)
      = bigSep Finset.univ fun h : Fin (len s) => iprop(semVal (rcvCell s c h) 0 ∗ got X s c h (if h.val + 1 < len s then fullShare.right else fullShare)) := by
    unfold arrivals
    refine bigSep_congr fun h _ => ?_
    have hl := h.isLt
    by_cases hh : h.val + 1 < len s
    · rw [if_pos (by omega), if_pos hh]; rfl
    · rw [if_neg (by omega), if_pos hl, if_neg hh]; rfl
  have hshift : (bigSep Finset.univ fun h : Fin (len s) => lent X s c h)
      ⊢ iprop(lent X s c ⟨0, len_pos s⟩ ∗ bigSep Finset.univ fun h : Fin (len s) => if hh : h.val + 1 < len s then lent X s c ⟨h.val + 1, hh⟩ else iprop(emp)) := by
    cases s
    · exact family_shift 14 _
    · exact family_shift 15 _
  have hjoin : iprop((bigSep Finset.univ fun h : Fin (len s) => if hh : h.val + 1 < len s then lent X s c ⟨h.val + 1, hh⟩ else iprop(emp))
      ∗ bigSep Finset.univ fun h : Fin (len s) => got X s c h (if h.val + 1 < len s then fullShare.right else fullShare))
      ⊢ (bigSep Finset.univ fun h : Fin (len s) => anyAt (slot s h) c : sProp 𝕄) := by
    rw [← bigSep_sep']
    refine bigSep_mono fun h _ => ?_
    by_cases hh : h.val + 1 < len s
    · rw [dif_pos hh, if_pos hh, lent_succ X s c h ⟨h.val + 1, hh⟩ rfl]
      exact (holds_join (slot s h) c fullShare _ _).trans (holds_any _ _ _)
    · rw [dif_neg hh, if_neg hh]
      show iprop(emp ∗ got X s c h fullShare) ⊢ anyAt (slot s h) c
      refine BI.Entails.trans ?_ (holds_any (slot s h) c (X (org s c (h.val + 1))))
      show iprop(emp ∗ got X s c h fullShare) ⊢ (got X s c h fullShare : sProp 𝕄)
      iintro ⟨-, H⟩
      iexact H
  rw [hs, ha]
  unfold gone
  rw [bigSep_sep', bigSep_sep', bigSep_sep']
  iintro ⟨⟨H1, H2⟩, H3, H4⟩
  ihave H2 := hshift $$ H2
  icases H2 with ⟨H0, H2⟩
  isplitl [H1 H3]
  · isplitl [H1] <;> iassumption
  isplitl [H0]; · iexact H0
  iapply hjoin
  isplitl [H2] <;> iassumption

/-! ## The slots of a direction and its whole buffer -/

/-- The landing buffer of a direction, whole. -/
def scr (s : Bool) (c : Dev nD) : sProp 𝕄 := match s with
  | true => iprop(∃ f : Buf (Elt F) ((c : Thread nD τ).loc cc0_scratch0), ((c : Thread nD τ).loc cc0_scratch0 ↦{fullShare} f))
  | false => iprop(∃ f : Buf (Elt F) ((c : Thread nD τ).loc cc0_scratch1), ((c : Thread nD τ).loc cc0_scratch1 ↦{fullShare} f))

/-- A location cut into parts, and put together again, at contents not chosen. -/
theorem parts (ℓ : Loc nD τ sig) {n : ℕ} (K : Fin n → Finset (Idx ℓ)) (hd : ∀ t t', t ≠ t' → Disjoint (K t) (K t'))
    (hc : Finset.univ.biUnion K = Finset.univ) :
    (iprop(∃ f : Buf (Elt F) ℓ, (ℓ ↦{fullShare} f)) : sProp 𝕄) ⊣⊢ bigSep Finset.univ fun h => iprop(∃ f : Buf (Elt F) ℓ, (ℓ ↦[K h]{fullShare} f)) := by
  constructor
  · have hm : ∀ f : Buf (Elt F) ℓ, (bigSep Finset.univ fun h : Fin n => (ℓ ↦[K h]{fullShare} f : sProp 𝕄))
        ⊢ bigSep Finset.univ fun h : Fin n => iprop(∃ f : Buf (Elt F) ℓ, (ℓ ↦[K h]{fullShare} f)) := fun f =>
      bigSep_mono fun h _ => by
        show (ℓ ↦[K h]{fullShare} f : sProp 𝕄) ⊢ iprop(∃ f : Buf (Elt F) ℓ, (ℓ ↦[K h]{fullShare} f))
        iintro H; iexists f; iexact H
    iintro ⟨%f, H⟩
    ihave H := (Entails.of_eq ((congrArg (fun S => (ℓ ↦[S]{fullShare} f : sProp 𝕄)) hc.symm).trans
      (pointsTo_biUnion Finset.univ K fun t _ t' _ => hd t t'))) $$ H
    iapply (hm f)
    iexact H
  · haveI : Nonempty (Buf (Elt F) ℓ) := ⟨fun _ => default⟩
    refine (bigSep_exists_pi Finset.univ fun (h : Fin n) (f : Buf (Elt F) ℓ) => iprop(ℓ ↦[K h]{fullShare} f)).trans ?_
    iintro ⟨%fs, H⟩
    ihave H := (pointsTo_biUnion_join (ℓ := ℓ) (q := fullShare) Finset.univ K fs (fun _ => default) fun t _ t' _ => hd t t') $$ H
    icases H with ⟨%g, -, H⟩
    iexists g
    iapply (Entails.of_eq (congrArg (fun S => (ℓ ↦[S]{fullShare} g : sProp 𝕄)) hc))
    iexact H

theorem rectR_mem (j : Fin 16) (i : S16x128x4096.Idx) : i ∈ (rectR j).set ↔ (i 0).val = j.val := by
  rw [Rect.mem_set_unit]
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ => exact ⟨Nat.zero_le _, by show (i 1).val < 0 + 128; have h1 : (i 1).val < 128 := (i 1).isLt; omega⟩
    | ⟨2, _⟩ => exact ⟨Nat.zero_le _, by show (i 2).val < 0 + 4096; have h1 : (i 2).val < 4096 := (i 2).isLt; omega⟩
theorem rectL_mem (j : Fin 15) (i : S15x128x4096.Idx) : i ∈ (rectL j).set ↔ (i 0).val = j.val := by
  rw [Rect.mem_set_unit]
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ => exact ⟨Nat.zero_le _, by show (i 1).val < 0 + 128; have h1 : (i 1).val < 128 := (i 1).isLt; omega⟩
    | ⟨2, _⟩ => exact ⟨Nat.zero_le _, by show (i 2).val < 0 + 4096; have h1 : (i 2).val < 4096 := (i 2).isLt; omega⟩

theorem sR_view_set (j : Fin 16) : (sR j).view.set = (rectR j).set := (sR_set j).trans (View.set_slice_whole _ _)
theorem sL_view_set (j : Fin 15) : (sL j).view.set = (rectL j).set := (sL_set j).trans (View.set_slice_whole _ _)

theorem scr_slots (s : Bool) (c : Dev nD) : (scr (F := F) s c : sProp 𝕄) ⊣⊢ bigSep Finset.univ fun h : Fin (len s) => anyAt (slot s h) c := by
  cases s with
  | true =>
    refine (parts (F := F) ((c : Thread nD τ).loc cc0_scratch0) (n := 16) (fun j => (rectR j).set) (fun t t' ht => ?_) ?_).trans (BiEntails.of_eq ?_)
    · rw [Finset.disjoint_left]
      intro i h1 h2
      exact ht (Fin.ext (((rectR_mem t i).mp h1).symm.trans ((rectR_mem t' i).mp h2)))
    · refine Finset.eq_univ_of_forall fun i => Finset.mem_biUnion.mpr ⟨(i 0 : Fin 16), Finset.mem_univ _, (rectR_mem _ i).mpr rfl⟩
    · refine bigSep_congr fun h _ => ?_
      unfold anyAt
      exact congrArg (fun S : Finset S16x128x4096.Idx => (iprop(∃ f : Buf (Elt F) ((c : Thread nD τ).loc cc0_scratch0), ((c : Thread nD τ).loc cc0_scratch0 ↦[S]{fullShare} f)) : sProp 𝕄))
        (sR_view_set h).symm
  | false =>
    refine (parts (F := F) ((c : Thread nD τ).loc cc0_scratch1) (n := 15) (fun j => (rectL j).set) (fun t t' ht => ?_) ?_).trans (BiEntails.of_eq ?_)
    · rw [Finset.disjoint_left]
      intro i h1 h2
      exact ht (Fin.ext (((rectL_mem t i).mp h1).symm.trans ((rectL_mem t' i).mp h2)))
    · refine Finset.eq_univ_of_forall fun i => Finset.mem_biUnion.mpr ⟨(i 0 : Fin 15), Finset.mem_univ _, (rectL_mem _ i).mpr rfl⟩
    · refine bigSep_congr fun h _ => ?_
      unfold anyAt
      exact congrArg (fun S : Finset S15x128x4096.Idx => (iprop(∃ f : Buf (Elt F) ((c : Thread nD τ).loc cc0_scratch1), ((c : Thread nD τ).loc cc0_scratch1 ↦[S]{fullShare} f)) : sProp 𝕄))
        (sL_view_set h).symm

end Cert.KernelIdeal.Ring

end
-- ==== Proof.Body.lean ====
/-
The whole body at one device, from what the launch hands it to the state with every semaphore back at zero.
-/
module

public import proofs.«01_k».proof.Proof.Slots

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Words of scalar memory -/

abbrev oneRect : Rect S1 := Rect.unit (s := S1) ![0] S1.size inb_S1_S1_0

/-- A buffer of one word, reading as `v`. -/
def wordAt {e : EltTy} (M : Memref sig .tc .smem S1 e) (c : Dev nD) (v : Elt F e) : sProp 𝕄 :=
  iprop(∃ f : Buf (Elt F) ((M.access oneRect).loc (c : Thread nD τ)),
    ⌜(M.access oneRect).read (Elt F) f (Shape.Idx.first (numel1_S1.symm ▸ Nat.one_pos)) = v⌝
      ∗ ((M.access oneRect).loc (c : Thread nD τ) ↦[Finset.univ]{fullShare} f))

theorem wp_word {e : EltTy} (M : Memref sig .tc .smem S1 e) (c : Dev nD) (v : Elt F e) (hw : (M.access oneRect).Loads) (k : Elt F e → Pr F)
    (Q : PUnit → sProp 𝕄) :
    wordAt M c v ⊢ iprop((wordAt M c v -∗ wp frame (wpE (defs₀ (F := F)) 𝒱₀ c none) Set.univ (k v) Q)
      -∗ wp frame (wpE (defs₀ (F := F)) 𝒱₀ c none) Set.univ (smemLoadElt M oneRect hw (Shape.Idx.first (numel1_S1.symm ▸ Nat.one_pos)) k) Q) := by
  unfold wordAt
  iintro ⟨%f, %hf, H⟩ Hk
  iapply (wp_smemLoadElt 𝒱₀ (c : Thread nD τ) none Set.univ (m := M) (r := oneRect) (S := Finset.univ) (f := f) (Finset.subset_univ _)) $$ H
  iintro H
  rw [hf]
  iapply Hk
  iexists f
  isplitr
  · ipureintro; exact hf
  · iexact H

theorem chk1_word : ∀ d : Dev nD, k0_chk1 (Dev.word d) := by decide +kernel
theorem chk2_word : ∀ d : Dev nD, k0_chk2 (Dev.word d) := by decide +kernel
theorem dev1_val : ∀ d : Dev nD, k0_dev1 (Dev.word d) = d.val := by decide +kernel
theorem dev2_val : ∀ d : Dev nD, k0_dev2 (Dev.word d) = d.val := by decide +kernel
theorem dev1_word (d : Dev nD) (h : k0_dev1 (Dev.word d) < nD) : (⟨k0_dev1 (Dev.word d), h⟩ : Dev nD) = d := Fin.ext (dev1_val d)
theorem dev2_word (d : Dev nD) (h : k0_dev2 (Dev.word d) < nD) : (⟨k0_dev2 (Dev.word d), h⟩ : Dev nD) = d := Fin.ext (dev2_val d)

/-! ## What a device starts from -/

/-- Its side of the barrier: both signals to send, both to wait for. -/
def gate (c : Dev nD) : sProp 𝕄 :=
  iprop(atPos ER (barCell c) 0 ∅ 0 ∗ cred (tallyAt (barCell c) () 2)
    ∗ (dutyTok ER (barCell (back true c)) 0 true ∗ reached ER (barCell (back true c)) 0)
    ∗ (dutyTok ER (barCell (back false c)) 0 false ∗ reached ER (barCell (back false c)) 0))

/-- Hop `h` but for its target slot. -/
def ready (s : Bool) (c : Dev nD) (h : Fin (len s)) : sProp 𝕄 :=
  iprop((dutyTok ER (sndCell s c h) 0 true ∗ reached ER (sndCell s c h) 0 ∗ atPos ER (sndCell s c h) 0 ∅ 0)
    ∗ dutyTok ER (rcvCell s (fwd s c) h) 0 true)

/-- Its part of one direction: its hops, its arrivals, and its own slots, which it hands over. -/
def side (s : Bool) (c : Dev nD) : sProp 𝕄 :=
  iprop((bigSep Finset.univ fun h : Fin (len s) => ready s c h) ∗ (bigSep Finset.univ fun h : Fin (len s) => waiting s c h)
    ∗ bigSep Finset.univ fun h : Fin (len s) => iprop(anyAt (slot s h) c ∗ reached ER (rcvCell s c h) 0))

variable (X : Dev nD → S128x4096.Idx → Elt F .fp8e4m3)

theorem sends_start (s : Bool) (c : Dev nD) :
    iprop((bigSep Finset.univ fun h : Fin (len s) => ready s c h) ∗ barPay s c) ⊢ (sends X s c 0 0 : sProp 𝕄) := by
  unfold barPay sends
  rw [← bigSep_sep']
  refine bigSep_mono fun h _ => ?_
  rw [if_neg (Nat.not_lt_zero _), if_neg (Nat.not_lt_zero _)]
  unfold ready todo
  show iprop(((dutyTok ER (sndCell s c h) 0 true ∗ reached ER (sndCell s c h) 0 ∗ atPos ER (sndCell s c h) 0 ∅ 0) ∗ dutyTok ER (rcvCell s (fwd s c) h) 0 true)
      ∗ anyAt (slot s h) (fwd s c) ∗ reached ER (rcvCell s (fwd s c) h) 0)
    ⊢ (iprop((dutyTok ER (sndCell s c h) 0 true ∗ reached ER (sndCell s c h) 0 ∗ atPos ER (sndCell s c h) 0 ∅ 0)
      ∗ dutyTok ER (rcvCell s (fwd s c) h) 0 true ∗ anyAt (slot s h) (fwd s c) ∗ reached ER (rcvCell s (fwd s c) h) 0) : sProp 𝕄)
  iintro ⟨⟨H1, H2⟩, H3⟩
  isplitl [H1]; · iexact H1
  isplitl [H2] <;> iassumption

theorem arrivals_start (s : Bool) (c : Dev nD) : (bigSep Finset.univ fun h : Fin (len s) => waiting s c h) = (arrivals X s c 0 0 : sProp 𝕄) := by
  unfold arrivals
  refine bigSep_congr fun h _ => ?_
  rw [if_neg (Nat.not_lt_zero _), if_neg (Nat.not_lt_zero _)]

/-- What device `c` pays at the barrier of the device that sends to it in direction `s`. -/
theorem pay_bar (s : Bool) (c : Dev nD) :
    (bigSep Finset.univ fun h : Fin (len s) => iprop(anyAt (slot s h) c ∗ reached ER (rcvCell s c h) 0)) = (barPay (F := F) s (back s c) : sProp 𝕄) := by
  unfold barPay
  rw [fwd_back]

theorem lent_zero (s : Bool) (c : Dev nD) : lent X s c ⟨0, len_pos s⟩ = (holds xM c (srcShare s 0) (X c) : sProp 𝕄) := by
  unfold lent
  rw [src_zero]
  rfl

theorem lent_right (c : Dev nD) : lent X true c ⟨0, len_pos true⟩ = (holds xM c fullShare.left.left (X c) : sProp 𝕄) := lent_zero X true c
theorem lent_left (c : Dev nD) : lent X false c ⟨0, len_pos false⟩ = (holds xM c fullShare.left.right (X c) : sProp 𝕄) := lent_zero X false c

/-! ## From the first hop on -/

variable (sc : F .f32) (B : S4096x256.Idx → Elt F .fp8e4m3)

def main (c dl dr : Dev nD) : Pr F :=
  hopR dr 0 <| hopL dl 0 <| gemm0 c sc <| recvR 0 <| recvL 0 <| stages dl dr sc 14 le_rfl <| lastStage dr sc <| sents 15 le_rfl <| .ret ⟨⟩

/-- What the exchange leaves of one direction. -/
def sideEnd (s : Bool) (c : Dev nD) : sProp 𝕄 :=
  iprop((bigSep Finset.univ fun h : Fin (len s) => iprop(semVal (sndCell s c h) 0 ∗ semVal (rcvCell s c h) 0)) ∗ bigSep Finset.univ fun h : Fin (len s) => anyAt (slot s h) c)

theorem wp_main {κ : GSem nD τ sig → ℕ} {I : sProp 𝕄} [BI.Persistent I] (hI : Knows X κ I) (c : Dev nD) (W : Waits sig Unit) (Q : PUnit → sProp 𝕄) :
    iprop(I ∗ levAts L lv ∗ sends X true c 0 0 ∗ sends X false c 0 0 ∗ arrivals X true c 0 0 ∗ arrivals X false c 0 0
        ∗ holds xM c fullShare (X c) ∗ (table true c ∗ table false c ∗ factor B c ∗ done X sc B c ∅)
        ∗ owes (c : Thread nD τ) (dues true c 0 + dues false c 0) W)
      ⊢ iprop(((sideEnd true c ∗ sideEnd false c ∗ holds xM c fullShare (X c) ∗ prods X sc B c 16 15 ∗ ∃ W, owes (c : Thread nD τ) 0 W) -∗ Q ⟨⟩)
        -∗ wp frame (wpE (defs₀ (F := F)) 𝒱₀ c none) Set.univ (main sc c (fwd false c) (fwd true c)) Q) := by
  unfold main
  rw [hopR_eq, hopL_eq, recvR_eq, recvL_eq]
  iintro ⟨#HI, #HL, HSR, HSL, HAR, HAL, Hx, ⟨HtR, HtL, HB, Hd⟩, HO⟩ Hk
  ihave Hx := (holds_split xM c fullShare (X c)) $$ Hx
  icases Hx with ⟨Hx, Hx3⟩
  ihave Hx := (holds_split xM c fullShare.left (X c)) $$ Hx
  icases Hx with ⟨Hx1, Hx2⟩
  ihave Hx1 := (Entails.of_eq (lent_right X c).symm) $$ Hx1
  ihave Hx2 := (Entails.of_eq (lent_left X c).symm) $$ Hx2
  rw [add_comm (dues true c 0) (dues false c 0)]
  iapply (wp_first X true c hI (⟨0, len_pos true⟩ : Fin 16) 0 rfl (dues false c 0) W) $$ [HSR Hx1 HO]
  · isplitr; · iexact HI
    isplitl [Hx1]; · iexact Hx1
    isplitl [HSR] <;> iassumption
  iintro ⟨HSR, HO⟩
  rw [add_comm (dues false c 0) (dues true c (0 + 1))]
  iapply (wp_first X false c hI (⟨0, len_pos false⟩ : Fin 15) 0 rfl (dues true c (0 + 1)) W) $$ [HSL Hx2 HO]
  · isplitr; · iexact HI
    isplitl [Hx2]; · iexact Hx2
    isplitl [HSL] <;> iassumption
  iintro ⟨HSL, HO⟩
  iapply (wp_gemm0 X sc B c fullShare.right ∅) $$ [Hx3 HB Hd]
  · isplitl [Hx3]; · iexact Hx3
    isplitl [HB] <;> iassumption
  iintro ⟨Hx3, HB, Hd⟩
  ihave Hd := (done_mono X sc B c (blocks_zero c)) $$ Hd
  iapply (wp_land X true c hI 0 (⟨0, len_pos true⟩ : Fin 16) (Nat.le_refl 0) (0 + 1) (0 + 1) Nat.one_pos Nat.one_pos W) $$ [HAR HO]
  · isplitr; · iexact HI
    isplitr; · iexact HL
    isplitl [HAR] <;> iassumption
  iintro ⟨HAR, ⟨%W1, HO⟩⟩
  iapply (wp_land X false c hI 0 (⟨0, len_pos false⟩ : Fin 15) (Nat.le_refl 0) (0 + 1) (0 + 1) Nat.one_pos Nat.one_pos W1) $$ [HAL HO]
  · isplitr; · iexact HI
    isplitr; · iexact HL
    isplitl [HAL] <;> iassumption
  iintro ⟨HAL, HO⟩
  iapply (wp_stages X sc B hI c _ _ 14 le_rfl) $$ [HSR HSL HAR HAL HtR HtL HB Hd HO]
  · isplitr; · iexact HI
    isplitr; · iexact HL
    unfold mid prods
    isplitl [HSR]; · iexact HSR
    isplitl [HSL]; · iexact HSL
    isplitl [HAR]; · iexact HAR
    isplitl [HAL]; · iexact HAL
    isplitl [HtR HtL HB Hd]
    · isplitl [HtR]; · iexact HtR
      isplitl [HtL]; · iexact HtL
      isplitl [HB]; · iexact HB
      iexact Hd
    iexact HO
  iintro Hm
  iapply (wp_lastStage X sc B hI c) $$ [Hm]
  · isplitr; · iexact HI
    isplitr; · iexact HL
    iexact Hm
  iintro Hf
  iapply (wp_sents X sc B hI c _ _ 15 le_rfl) $$ [Hf]
  · isplitr; · iexact HI
    iexact Hf
  iintro Ho
  unfold over
  icases Ho with ⟨HSR, HSL, HAR, HAL, HP, HO⟩
  ihave HR := (collapse X true c) $$ [HSR HAR]
  · isplitl [HSR]; · iexact HSR
    iexact HAR
  ihave HL' := (collapse X false c) $$ [HSL HAL]
  · isplitl [HSL]; · iexact HSL
    iexact HAL
  icases HR with ⟨HR1, Hx1, HR2⟩
  icases HL' with ⟨HL1, Hx2, HL2⟩
  ihave Hx1 := (Entails.of_eq (lent_right X c)) $$ Hx1
  ihave Hx2 := (Entails.of_eq (lent_left X c)) $$ Hx2
  ihave Hx := (holds_join xM c fullShare.left (X c) (X c)) $$ [Hx1 Hx2]
  · isplitl [Hx1]; · iexact Hx1
    iexact Hx2
  ihave Hx := (holds_join xM c fullShare (X c) (X c)) $$ [Hx Hx3]
  · isplitl [Hx]; · iexact Hx
    iexact Hx3
  rw [wp_ret]
  imodintro
  iapply Hk
  unfold sideEnd
  isplitl [HR1 HR2]
  · isplitl [HR1] <;> iassumption
  isplitl [HL1 HL2]
  · isplitl [HL1] <;> iassumption
  isplitl [Hx]; · iexact Hx
  isplitl [HP]; · iexact HP
  iexact HO

end Cert.KernelIdeal.Ring

end
-- ==== Proof.TextEq.lean ====
/-
The printed body is the folded text.
-/
module
public import proofs.«01_k».proof.Proof.Text
public import proofs.«01_k».proof.Proof.Gen.KernelIdeal.Launch
@[expose] public section
noncomputable section
namespace Cert.KernelIdeal.Ring
open Cert.KernelIdeal Cert.KernelIdeal.Gen
open Idealize.ShloMosaic Idealize.ShloMosaic.TcCoe
open Idealize.SL Idealize.SL.Sem
variable {F : FTy → Type} [FloatOps F]

set_option maxRecDepth 65536 in
set_option maxHeartbeats 4000000 in
theorem body_eq : bodyAt0 (F := F) t0_0 = folded := rfl

end Cert.KernelIdeal.Ring
end
-- ==== Proof.Whole.lean ====
/-
The body from its first operation: the words, the barrier, then the exchange.
-/
module

public import proofs.«01_k».proof.Proof.Body
public import proofs.«01_k».proof.Proof.TextEq

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S128x4096.Idx → Elt F .fp8e4m3)

theorem bool_univ : (Finset.univ : Finset Bool) = {true, false} := rfl

omit [FloatOps F] in
theorem bigSep_bool (Φ : Bool → sProp 𝕄) : bigSep Finset.univ Φ ⊢ iprop(Φ true ∗ Φ false) := by
  rw [bool_univ, bigSep_insert (by decide), bigSep_singleton]
  exact .rfl

theorem owed_two (c : Dev nD) :
    O₀ c = (dues true c 0 + dues false c 0 + tallyAt (barCell (back false c)) () 1) + tallyAt (barCell (fwd false c)) () 1 := rfl

/-- The barrier: both neighbours are told, then both have told. -/
theorem wp_barrier {κ : GSem nD τ sig → ℕ} {I : sProp 𝕄} [BI.Persistent I] (hI : Knows X κ I) (c : Dev nD) (W : Waits sig Unit) (k : Pr F) (Q : PUnit → sProp 𝕄) :
    iprop(I ∗ levAts L lv ∗ gate c ∗ side true c ∗ side false c ∗ owes (c : Thread nD τ) (O₀ c) W)
      ⊢ iprop(((semVal (barCell c) 0 ∗ sends X true c 0 0 ∗ sends X false c 0 0 ∗ arrivals X true c 0 0 ∗ arrivals X false c 0 0
            ∗ ∃ W', owes (c : Thread nD τ) (dues true c 0 + dues false c 0) W') -∗ wp frame (wpE (defs₀ (F := F)) 𝒱₀ c none) Set.univ k Q)
        -∗ wp frame (wpE (defs₀ (F := F)) 𝒱₀ c none) Set.univ
          (.op (.semSignal (Dev.tc (fwd false c)) barS 1) fun _ => .op (.semSignal (Dev.tc (fwd true c)) barS 1) fun _ => .op (.semWait barS 2) fun _ => k) Q) := by
  unfold gate side
  rw [pay_bar true c, pay_bar false c, arrivals_start X true c, arrivals_start X false c]
  iintro ⟨#HI, #HL, ⟨Hat, Hc, ⟨Ht1, Hr1⟩, ⟨Ht2, Hr2⟩⟩, ⟨HyR, HAR, HpR⟩, ⟨HyL, HAL, HpL⟩, HO⟩ Hk
  iapply (Rounds.wp_signal 𝒱₀ ER (ringRd X) (c : Thread nD τ) none (dst := ((back true c : Dev nD) : Thread nD τ)) (sem := barS) (r := 0) (d := true)
      (κ := κ (barCell (back true c))) (by rw [duties_bar]; exact Finset.mem_univ _) (amount_bar X _ _) ()
      (dues true c 0 + dues false c 0 + tallyAt (barCell (back false c)) () 1) (owed_two c)) $$ [HO Ht1 HpR Hr1]
  · isplitr; · iapply (hI _ (bar_mem (back true c))); iexact HI
    isplitl [HO]; · iexact HO
    isplitl [Ht1]; · iexact Ht1
    isplitl [HpR]; · rw [payload_bar]; iexact HpR
    iexact Hr1
  iintro HO
  iapply (Rounds.wp_signal 𝒱₀ ER (ringRd X) (c : Thread nD τ) none (dst := ((back false c : Dev nD) : Thread nD τ)) (sem := barS) (r := 0) (d := false)
      (κ := κ (barCell (back false c))) (by rw [duties_bar]; exact Finset.mem_univ _) (amount_bar X _ _) ()
      (dues true c 0 + dues false c 0) rfl) $$ [HO Ht2 HpL Hr2]
  · isplitr; · iapply (hI _ (bar_mem (back false c))); iexact HI
    isplitl [HO]; · iexact HO
    isplitl [Ht2]; · iexact Ht2
    isplitl [HpL]; · rw [payload_bar]; iexact HpL
    iexact Hr2
  iintro HO
  iapply (Rounds.wp_wait_rest_token 𝒱₀ ER (ringRd X) (c : Thread nD τ) none (κ := κ (barCell c))
      (wpE_semWait_eq 𝒱₀ (c : Thread nD τ) none Set.univ) (Set.mem_univ _) () (O := dues true c 0 + dues false c 0) (W := W) (R := 0) (m := 0) (T := ∅)
      ((Nat.zero_add _).trans (expect_bar X c).symm)) $$ [Hc Hat HO]
  · isplitr; · iapply (hI _ (bar_mem c)); iexact HI
    isplitl [Hc]; · iexact Hc
    isplitl [HO]; · iexact HO
    isplitr; · iapply (mayWait c (.reg barS) 0 0 (by rw [lv_bar]; decide) (by rw [lv_bar]; decide)); iexact HL
    iexact Hat
  iintro ⟨HO, Hat, -, Hpay⟩
  ihave Hp := (Entails.of_eq (rest_bar X c)) $$ Hpay
  ihave Hp := (bigSep_bool fun d => barPay (F := F) d c) $$ Hp
  icases Hp with ⟨HbR, HbL⟩
  imod (close X (κ (barCell c)) (barCell c)) $$ [Hat] with Hv
  · isplitr; · iapply (hI _ (bar_mem c)); iexact HI
    iexact Hat
  iapply Hk
  isplitl [Hv]; · iexact Hv
  isplitl [HyR HbR]
  · iapply (sends_start X true c)
    isplitl [HyR] <;> iassumption
  isplitl [HyL HbL]
  · iapply (sends_start X false c)
    isplitl [HyL] <;> iassumption
  isplitl [HAR]; · iexact HAR
  isplitl [HAL]; · iexact HAL
  iexists _; iexact HO

variable (a b : F .f32) (B : S4096x256.Idx → Elt F .fp8e4m3)

/-- The words of device `c`: its neighbours and the two factors of the scale. -/
def words (c : Dev nD) : sProp 𝕄 :=
  iprop(wordAt pvM c (Dev.word (fwd false c)) ∗ wordAt nxM c (Dev.word (fwd true c)) ∗ wordAt sxM c a ∗ wordAt swM c b)

theorem wp_folded {κ : GSem nD τ sig → ℕ} {I : sProp 𝕄} [BI.Persistent I] (hI : Knows X κ I) (c : Dev nD) (W : Waits sig Unit) (Q : PUnit → sProp 𝕄) :
    iprop(I ∗ levAts L lv ∗ (gate c ∗ side true c ∗ side false c) ∗ words a b c ∗ holds xM c fullShare (X c)
        ∗ (table true c ∗ table false c ∗ factor B c ∗ done X (k0_pay1 a b) B c ∅) ∗ owes (c : Thread nD τ) (O₀ c) W)
      ⊢ iprop(((semVal (barCell c) 0 ∗ sideEnd true c ∗ sideEnd false c ∗ words a b c ∗ holds xM c fullShare (X c)
            ∗ prods X (k0_pay1 a b) B c 16 15 ∗ ∃ W, owes (c : Thread nD τ) 0 W) -∗ Q ⟨⟩)
        -∗ wp frame (wpE (defs₀ (F := F)) 𝒱₀ c none) Set.univ folded Q) := by
  unfold folded words
  rw [wp_deviceId]
  iintro ⟨#HI, #HL, ⟨Hg, HR, HL'⟩, ⟨Hw1, Hw2, Hw3, Hw4⟩, Hx, HT, HO⟩ Hk
  iapply (wp_word pvM c (Dev.word (fwd false c)) _ _ _) $$ Hw1
  iintro Hw1
  rw [wp_assume_of 𝒱₀ (c : Thread nD τ) none Set.univ (chk1_word (fwd false c))]
  iapply (wp_word nxM c (Dev.word (fwd true c)) _ _ _) $$ Hw2
  iintro Hw2
  rw [wp_assume_of 𝒱₀ (c : Thread nD τ) none Set.univ (chk2_word (fwd true c))]
  iapply (wp_word sxM c a _ _ _) $$ Hw3
  iintro Hw3
  iapply (wp_word swM c b _ _ _) $$ Hw4
  iintro Hw4
  rw [dev1_word, dev2_word,
    show (⟨k0_dev1 (Dev.word (fwd true c)), k0_dev2_lt _ (chk2_word (fwd true c))⟩ : Dev nD) = fwd true c from Fin.ext (dev1_val _), SemArray.sem_scalar]
  rw [show (hopR (fwd true c) 0 <| hopL (fwd false c) 0 <| gemm0 (c : Thread nD τ).1 (k0_pay1 a b) <| recvR 0 <| recvL 0 <|
      stages (fwd false c) (fwd true c) (k0_pay1 a b) 14 le_rfl <| lastStage (fwd true c) (k0_pay1 a b) <| sents 15 le_rfl <| .ret ⟨⟩ : Pr F)
      = main (k0_pay1 a b) c (fwd false c) (fwd true c) from rfl]
  iapply (wp_barrier X hI c W (main (k0_pay1 a b) c (fwd false c) (fwd true c)) Q) $$ [Hg HR HL' HO]
  · isplitr; · iexact HI
    isplitr; · iexact HL
    isplitl [Hg]; · iexact Hg
    isplitl [HR]; · iexact HR
    isplitl [HL']; · iexact HL'
    iexact HO
  iintro ⟨Hv, HSR, HSL, HAR, HAL, ⟨%W1, HO⟩⟩
  iapply (wp_main X (k0_pay1 a b) B hI c W1 Q) $$ [HSR HSL HAR HAL Hx HT HO]
  · isplitr; · iexact HI
    isplitr; · iexact HL
    isplitl [HSR]; · iexact HSR
    isplitl [HSL]; · iexact HSL
    isplitl [HAR]; · iexact HAR
    isplitl [HAL]; · iexact HAL
    isplitl [Hx]; · iexact Hx
    isplitl [HT]; · iexact HT
    iexact HO
  iintro ⟨HR, HL', Hx, HP, HO⟩
  iapply Hk
  isplitl [Hv]; · iexact Hv
  isplitl [HR]; · iexact HR
  isplitl [HL']; · iexact HL'
  isplitl [Hw1 Hw2 Hw3 Hw4]
  · isplitl [Hw1]; · iexact Hw1
    isplitl [Hw2]; · iexact Hw2
    isplitl [Hw3] <;> iassumption
  isplitl [Hx]; · iexact Hx
  isplitl [HP]; · iexact HP
  iexact HO

end Cert.KernelIdeal.Ring

end
-- ==== Proof.Window.lean ====
/-
The body against the staging buffers: what each window hands it and what it leaves there.
-/
module

public import proofs.«01_k».proof.Proof.Whole
public import proofs.«01_k».proof.Proof.Gen.KernelIdeal.Points
public import proofs.«01_k».proof.Proof.Gen.KernelIdeal.Regions

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

/-! ## The values the staging buffers hold -/

/-- The one index of a buffer of one word. -/
abbrev one : S1.Idx := Shape.Idx.first (numel1_S1.symm ▸ Nat.one_pos)

variable (V : Dev nD → Valuation τ sig (Elt F))

/-- The chunk of a device, its right factor, and the product of its two scales. -/
def chunk (c : Dev nD) : S128x4096.Idx → Elt F .fp8e4m3 := V c main_arg0
def rfac (c : Dev nD) : S4096x256.Idx → Elt F .fp8e4m3 := V c main_arg1
def scaleX (c : Dev nD) : F .f32 := (V c main_arg2 : S1.Idx → F .f32) one
def scaleW (c : Dev nD) : F .f32 := (V c main_arg3 : S1.Idx → F .f32) one
/-- The result of a device. -/
def total (c : Dev nD) : S4096x256.Idx → F .f32 := result (chunk V) (k0_pay1 (scaleX V c) (scaleW V c)) (rfac V c)

/-- What the host operations have put into the tables. -/
structure Tables : Prop where
  nxt : ∀ c, (V c main_v17 : S1.Idx → BitVec 32) = fun _ => Dev.word (fwd true c)
  prv : ∀ c, (V c main_v25 : S1.Idx → BitVec 32) = fun _ => Dev.word (fwd false c)
  right : ∀ c, (V c main_v37 : S16.Idx → BitVec 32) = fun i => Dev.word (org true c ((i 0).val + 1))
  left : ∀ c, (V c main_v49 : S15.Idx → BitVec 32) = fun i => Dev.word (org false c ((i 0).val + 1))

/-! ## A whole buffer, two ways -/

theorem s1_all (i j : S1.Idx) : i = j := by
  funext a
  match a with
  | ⟨0, _⟩ => exact Fin.ext (by have h1 : (i 0).val < 1 := (i 0).isLt; have h2 : (j 0).val < 1 := (j 0).isLt; show (i 0).val = (j 0).val; omega)

theorem read_one {e : EltTy} (M : Memref sig .tc .smem S1 e) (c : Dev nD) (f : Buf (Elt F) ((M.access oneRect).loc (c : Thread nD τ))) :
    (M.access oneRect).read (Elt F) f one = M.view.read (Elt F) f one := by
  show M.view.read (Elt F) f _ = _
  exact congrArg _ (s1_all _ _)

theorem word_in {e : EltTy} (M : Memref sig .tc .smem S1 e) (c : Dev nD) (hM : M.view.set = Finset.univ) (v : Elt F e) :
    owns (c : Thread nD τ) M fullShare (fun _ => v) ⊢ (wordAt M c v : sProp 𝕄) := by
  unfold owns wordAt
  rw [hM]
  iintro ⟨%f, %hf, H⟩
  iexists f
  isplitr
  · ipureintro; exact (read_one M c f).trans (congrFun hf one)
  · iexact H

theorem word_out {e : EltTy} (M : Memref sig .tc .smem S1 e) (c : Dev nD) (hM : M.view.set = Finset.univ) (v : Elt F e) :
    wordAt M c v ⊢ (owns (c : Thread nD τ) M fullShare (fun _ => v) : sProp 𝕄) := by
  unfold owns wordAt
  rw [hM]
  iintro ⟨%f, %hf, H⟩
  iexists f
  isplitr
  · ipureintro; funext i; rw [s1_all i one]; exact (read_one M c f).symm.trans hf
  · iexact H

/-- The table's buffer and the words it should hold. -/
theorem table_right (c : Dev nD) : owns (c : Thread nD τ) orM fullShare (fun i : S16.Idx => Dev.word (org true c ((i 0).val + 1))) ⊣⊢ (table (F := F) true c : sProp 𝕄) := by
  rw [owns_whole_eq]
  constructor
  · iintro ⟨%f, %hf, H⟩
    unfold table
    iexists f
    isplitr
    · ipureintro
      intro j
      subst hf
      rfl
    · iexact H
  · unfold table
    iintro ⟨%f, %hf, H⟩
    iexists f
    isplitr
    · ipureintro
      funext i
      refine Eq.trans ?_ (hf (i 0))
      exact congrArg f (funext fun a => by match a with | ⟨0, _⟩ => exact Fin.ext rfl)
    · iexact H
theorem table_left (c : Dev nD) : owns (c : Thread nD τ) olM fullShare (fun i : S15.Idx => Dev.word (org false c ((i 0).val + 1))) ⊣⊢ (table (F := F) false c : sProp 𝕄) := by
  rw [owns_whole_eq]
  constructor
  · iintro ⟨%f, %hf, H⟩
    unfold table
    iexists f
    isplitr
    · ipureintro
      intro j
      subst hf
      rfl
    · iexact H
  · unfold table
    iintro ⟨%f, %hf, H⟩
    iexists f
    isplitr
    · ipureintro
      funext i
      refine Eq.trans ?_ (hf (i 0))
      exact congrArg f (funext fun a => by match a with | ⟨0, _⟩ => exact Fin.ext rfl)
    · iexact H

theorem factor_eq (c : Dev nD) (B : S4096x256.Idx → Elt F .fp8e4m3) : owns (c : Thread nD τ) wM fullShare B = (factor B c : sProp 𝕄) := owns_whole _ _ _ _

theorem done_in (c : Dev nD) (X : Dev nD → S128x4096.Idx → Elt F .fp8e4m3) (sc : F .f32) (B : S4096x256.Idx → Elt F .fp8e4m3) (Y : S4096x256.Idx → F .f32) :
    owns (c : Thread nD τ) oM fullShare Y ⊢ (done X sc B c ∅ : sProp 𝕄) := by
  rw [owns_whole_eq]
  unfold done
  iintro ⟨%f, %hf, H⟩
  iexists f
  isplitr
  · ipureintro; intro i hi; exact absurd hi (Set.notMem_empty _)
  · iexact H

theorem done_out (c : Dev nD) (X : Dev nD → S128x4096.Idx → Elt F .fp8e4m3) (sc : F .f32) (B : S4096x256.Idx → Elt F .fp8e4m3) :
    done X sc B c (blocks c 16 15) ⊢ (owns (c : Thread nD τ) oM fullShare (result X sc B) : sProp 𝕄) := by
  rw [owns_whole_eq]
  unfold done
  iintro ⟨%f, %hf, H⟩
  iexists f
  isplitr
  · ipureintro; funext i; exact hf i (blocks_all c _)
  · iexact H

/-! ## The proof data -/

/-- What a device knows of the protocol: invariants for every cell, whatever their names. -/
def lore : sProp 𝕄 := iprop(∃ (κ : GSem nD τ sig → ℕ) (I : sProp 𝕄), ⌜BI.Persistent I ∧ Knows (chunk V) κ I⌝ ∗ I)

/-- One direction before the body, but for the slots. -/
def sideOpen (s : Bool) (c : Dev nD) : sProp 𝕄 :=
  iprop((bigSep Finset.univ fun h : Fin (len s) => ready s c h) ∗ (bigSep Finset.univ fun h : Fin (len s) => waiting s c h)
    ∗ bigSep Finset.univ fun h : Fin (len s) => reached ER (rcvCell s c h) 0)

/-- The counters of one direction, all at zero. -/
def quiet (s : Bool) (c : Dev nD) : sProp 𝕄 :=
  bigSep Finset.univ fun h : Fin (len s) => iprop(semVal (sndCell s c h) 0 ∗ semVal (rcvCell s c h) 0)

/-- What the opened protocol gives device `c`. -/
def Xk (c : Dev nD) : sProp 𝕄 := iprop(lore V ∗ levAts L lv ∗ gate c ∗ sideOpen true c ∗ sideOpen false c)

def phiIn (c : Dev nD) : sProp 𝕄 := iprop(Xk V c ∗ (scr true c ∗ scr false c) ∗ ∃ r, prngReg c r)
def phiOut (c : Dev nD) : sProp 𝕄 := iprop(semVal (barCell c) 0 ∗ (quiet true c ∗ quiet false c) ∗ (scr true c ∗ scr false c) ∗ ∃ r, prngReg (nD := nD) c r)

def dat (c : Dev nD) : Dat τ (Elt F) Unit ℕ UU ℕ cfg0 c where
  A w := match w with
    | 0 => V c main_arg0
    | 1 => V c main_arg1
    | 2 => V c main_arg2
    | 3 => V c main_arg3
    | 4 => V c main_v17
    | 5 => V c main_v25
    | 6 => V c main_v37
    | 7 => V c main_v49
    | 8 => V c main_v50
  after w _ := match w with
    | 0 => chunk V c
    | 1 => rfac V c
    | 2 => fun _ => scaleX V c
    | 3 => fun _ => scaleW V c
    | 4 => fun _ => Dev.word (fwd true c)
    | 5 => fun _ => Dev.word (fwd false c)
    | 6 => fun i : S16.Idx => Dev.word (org true c ((i 0).val + 1))
    | 7 => fun i : S15.Idx => Dev.word (org false c ((i 0).val + 1))
    | 8 => total V c
  Φ t := if t.val = 0 then phiIn V c else phiOut c
  q _ := fullShare
  owed t := if t.val = 0 then O₀ c else 0

def pdats : (p : Fin 1) → (c : Dev nD) → Dat τ (Elt F) Unit ℕ UU ℕ (cfgs p) c
  | 0, c => dat V c

/-! ## What the windows hand over -/

theorem before_x (c : Dev nD) (t : Fin cfg0.N) (d) : (dat V c).before (0 : Fin 9) t d = V c main_arg0 := by
  rw [(dat V c).before_fetched (0 : Fin 9) t (fetch0_0 t) d]
  have hz : (fun a => (win0_0.index t) a * main_arg0.ty.shape.size a) = fun _ => 0 := funext fun a =>
    (congrArg (· * _) (by fin_cases a <;> rfl)).trans (Nat.zero_mul _)
  exact Memref.read_access_unit_zero (Elt F) main_arg0 hz (fun a => by rw [congrFun hz a]; exact (Nat.zero_add _).le) (V c main_arg0)
theorem before_w (c : Dev nD) (t : Fin cfg0.N) (d) : (dat V c).before (1 : Fin 9) t d = V c main_arg1 := by
  rw [(dat V c).before_fetched (1 : Fin 9) t (fetch0_1 t) d]
  have hz : (fun a => (win0_1.index t) a * main_arg1.ty.shape.size a) = fun _ => 0 := funext fun a =>
    (congrArg (· * _) (by fin_cases a <;> rfl)).trans (Nat.zero_mul _)
  exact Memref.read_access_unit_zero (Elt F) main_arg1 hz (fun a => by rw [congrFun hz a]; exact (Nat.zero_add _).le) (V c main_arg1)
theorem before_sx (c : Dev nD) (t : Fin cfg0.N) (d) : (dat V c).before (2 : Fin 9) t d = V c main_arg2 := by
  rw [(dat V c).before_fetched (2 : Fin 9) t (fetch0_2 t) d]
  have hz : (fun a => (win0_2.index t) a * main_arg2.ty.shape.size a) = fun _ => 0 := funext fun a => by fin_cases a <;> rfl
  exact Memref.read_access_unit_zero (Elt F) main_arg2 hz (fun a => by rw [congrFun hz a]; exact (Nat.zero_add _).le) (V c main_arg2)
theorem before_sw (c : Dev nD) (t : Fin cfg0.N) (d) : (dat V c).before (3 : Fin 9) t d = V c main_arg3 := by
  rw [(dat V c).before_fetched (3 : Fin 9) t (fetch0_3 t) d]
  have hz : (fun a => (win0_3.index t) a * main_arg3.ty.shape.size a) = fun _ => 0 := funext fun a => by fin_cases a <;> rfl
  exact Memref.read_access_unit_zero (Elt F) main_arg3 hz (fun a => by rw [congrFun hz a]; exact (Nat.zero_add _).le) (V c main_arg3)
theorem before_nxt (c : Dev nD) (t : Fin cfg0.N) (d) : (dat V c).before (4 : Fin 9) t d = V c main_v17 := by
  rw [(dat V c).before_fetched (4 : Fin 9) t (fetch0_4 t) d]
  have hz : (fun a => (win0_4.index t) a * main_v17.ty.shape.size a) = fun _ => 0 := funext fun a => by fin_cases a <;> rfl
  exact Memref.read_access_unit_zero (Elt F) main_v17 hz (fun a => by rw [congrFun hz a]; exact (Nat.zero_add _).le) (V c main_v17)
theorem before_prv (c : Dev nD) (t : Fin cfg0.N) (d) : (dat V c).before (5 : Fin 9) t d = V c main_v25 := by
  rw [(dat V c).before_fetched (5 : Fin 9) t (fetch0_5 t) d]
  have hz : (fun a => (win0_5.index t) a * main_v25.ty.shape.size a) = fun _ => 0 := funext fun a => by fin_cases a <;> rfl
  exact Memref.read_access_unit_zero (Elt F) main_v25 hz (fun a => by rw [congrFun hz a]; exact (Nat.zero_add _).le) (V c main_v25)
theorem before_right (c : Dev nD) (t : Fin cfg0.N) (d) : (dat V c).before (6 : Fin 9) t d = V c main_v37 := by
  rw [(dat V c).before_fetched (6 : Fin 9) t (fetch0_6 t) d]
  have hz : (fun a => (win0_6.index t) a * main_v37.ty.shape.size a) = fun _ => 0 := funext fun a => by fin_cases a <;> rfl
  exact Memref.read_access_unit_zero (Elt F) main_v37 hz (fun a => by rw [congrFun hz a]; exact (Nat.zero_add _).le) (V c main_v37)
theorem before_left (c : Dev nD) (t : Fin cfg0.N) (d) : (dat V c).before (7 : Fin 9) t d = V c main_v49 := by
  rw [(dat V c).before_fetched (7 : Fin 9) t (fetch0_7 t) d]
  have hz : (fun a => (win0_7.index t) a * main_v49.ty.shape.size a) = fun _ => 0 := funext fun a => by fin_cases a <;> rfl
  exact Memref.read_access_unit_zero (Elt F) main_v49 hz (fun a => by rw [congrFun hz a]; exact (Nat.zero_add _).le) (V c main_v49)

theorem any_in {c : Thread nD τ} {sp : Space} {sh : Shape} {e : EltTy} {m : Memref sig c.2.kind sp sh e} {D : Type} {X : D → sh.Idx → Elt F e} {Y : sh.Idx → Elt F e}
    (h : ∀ d, X d = Y) : iprop(∃ d, owns c m fullShare (X d)) ⊢ (owns c m fullShare Y : sProp 𝕄) := by
  iintro ⟨%d, H⟩
  rw [← h d]
  iexact H

theorem word_fun {e : EltTy} (Y : S1.Idx → Elt F e) : Y = fun _ => Y one := funext fun i => congrArg Y (s1_all i one)

/-- Entering the body: the staging buffers as it wants them. -/
theorem windows_in (hV : Tables V) (c : Dev nD) :
    (bigSep Finset.univ fun w : Fin 9 => iprop(∃ d, owns (c : Thread nD τ) ((cfg0.win w).stage (cfg0.slots t0_0 w)) fullShare ((dat V c).before w t0_0 d)))
      ⊢ (iprop(words (scaleX V c) (scaleW V c) c ∗ holds xM c fullShare (chunk V c)
          ∗ (table true c ∗ table false c ∗ factor (rfac V c) c ∗ done (chunk V) (k0_pay1 (scaleX V c) (scaleW V c)) (rfac V c) c ∅)) : sProp 𝕄) := by
  rw [bigSep_W0]
  have h0 : iprop(∃ d, owns (c : Thread nD τ) xM fullShare ((dat V c).before (0 : Fin 9) t0_0 d)) ⊢ (holds xM c fullShare (chunk V c) : sProp 𝕄) := any_in (before_x V c t0_0)
  have h1 : iprop(∃ d, owns (c : Thread nD τ) wM fullShare ((dat V c).before (1 : Fin 9) t0_0 d)) ⊢ (factor (rfac V c) c : sProp 𝕄) :=
    (any_in (before_w V c t0_0)).trans (Entails.of_eq (factor_eq c _))
  have h2 : iprop(∃ d, owns (c : Thread nD τ) sxM fullShare ((dat V c).before (2 : Fin 9) t0_0 d)) ⊢ (wordAt sxM c (scaleX V c) : sProp 𝕄) :=
    (any_in fun d => (before_sx V c t0_0 d).trans (word_fun _)).trans (word_in sxM c (View.set_whole _) _)
  have h3 : iprop(∃ d, owns (c : Thread nD τ) swM fullShare ((dat V c).before (3 : Fin 9) t0_0 d)) ⊢ (wordAt swM c (scaleW V c) : sProp 𝕄) :=
    (any_in fun d => (before_sw V c t0_0 d).trans (word_fun _)).trans (word_in swM c (View.set_whole _) _)
  have h4 : iprop(∃ d, owns (c : Thread nD τ) nxM fullShare ((dat V c).before (4 : Fin 9) t0_0 d)) ⊢ (wordAt (F := F) nxM c (Dev.word (fwd true c)) : sProp 𝕄) :=
    (any_in fun d => (before_nxt V c t0_0 d).trans (hV.nxt c)).trans (word_in nxM c (View.set_whole _) _)
  have h5 : iprop(∃ d, owns (c : Thread nD τ) pvM fullShare ((dat V c).before (5 : Fin 9) t0_0 d)) ⊢ (wordAt (F := F) pvM c (Dev.word (fwd false c)) : sProp 𝕄) :=
    (any_in fun d => (before_prv V c t0_0 d).trans (hV.prv c)).trans (word_in pvM c (View.set_whole _) _)
  have h6 : iprop(∃ d, owns (c : Thread nD τ) orM fullShare ((dat V c).before (6 : Fin 9) t0_0 d)) ⊢ (table (F := F) true c : sProp 𝕄) :=
    (any_in fun d => (before_right V c t0_0 d).trans (hV.right c)).trans (table_right c).1
  have h7 : iprop(∃ d, owns (c : Thread nD τ) olM fullShare ((dat V c).before (7 : Fin 9) t0_0 d)) ⊢ (table (F := F) false c : sProp 𝕄) :=
    (any_in fun d => (before_left V c t0_0 d).trans (hV.left c)).trans (table_left c).1
  have h8 : iprop(∃ d, owns (c : Thread nD τ) oM fullShare ((dat V c).before (8 : Fin 9) t0_0 d))
      ⊢ (done (chunk V) (k0_pay1 (scaleX V c) (scaleW V c)) (rfac V c) c ∅ : sProp 𝕄) := by
    iintro ⟨%d, H⟩
    iapply (done_in c (chunk V) (k0_pay1 (scaleX V c) (scaleW V c)) (rfac V c)) $$ H
  unfold words
  iintro ⟨H0, H1, H2, H3, H4, H5, H6, H7, H8⟩
  isplitl [H2 H3 H4 H5]
  · isplitl [H5]; · iapply h5 $$ H5
    isplitl [H4]; · iapply h4 $$ H4
    isplitl [H2]; · iapply h2 $$ H2
    iapply h3 $$ H3
  isplitl [H0]; · iapply h0 $$ H0
  isplitl [H6]; · iapply h6 $$ H6
  isplitl [H7]; · iapply h7 $$ H7
  isplitl [H1]; · iapply h1 $$ H1
  iapply h8 $$ H8

/-- Leaving it. -/
theorem windows_out (c : Dev nD) :
    iprop(words (scaleX V c) (scaleW V c) c ∗ holds xM c fullShare (chunk V c) ∗ prods (chunk V) (k0_pay1 (scaleX V c) (scaleW V c)) (rfac V c) c 16 15)
      ⊢ (bigSep Finset.univ fun w : Fin 9 => owns (c : Thread nD τ) ((cfg0.win w).stage (cfg0.slots t0_0 w)) fullShare ((dat V c).after w t0_0) : sProp 𝕄) := by
  rw [bigSep_W0]
  unfold words prods
  rw [← factor_eq]
  iintro ⟨⟨H5, H4, H2, H3⟩, H0, H6, H7, H1, H8⟩
  isplitl [H0]
  · iapply (show holds xM c fullShare (chunk V c) ⊢ (owns (c : Thread nD τ) xM fullShare (chunk V c) : sProp 𝕄) from Entails.of_eq (PROP := sProp 𝕄) rfl) $$ H0
  isplitl [H1]; · iexact H1
  isplitl [H2]; · iapply (word_out sxM c (View.set_whole _) (scaleX V c)) $$ H2
  isplitl [H3]; · iapply (word_out swM c (View.set_whole _) (scaleW V c)) $$ H3
  isplitl [H4]; · iapply (word_out (F := F) nxM c (View.set_whole _) (Dev.word (fwd true c))) $$ H4
  isplitl [H5]; · iapply (word_out (F := F) pvM c (View.set_whole _) (Dev.word (fwd false c))) $$ H5
  isplitl [H6]; · iapply (table_right (F := F) c).2 $$ H6
  isplitl [H7]; · iapply (table_left (F := F) c).2 $$ H7
  iapply (done_out c (chunk V) (k0_pay1 (scaleX V c) (scaleW V c)) (rfac V c)) $$ H8

/-! ## The obligation -/

theorem owed_first (c : Dev nD) : (dat V c).owed t0_0.castSucc = O₀ c := rfl
theorem owed_last (c : Dev nD) : (dat V c).owed t0_0.succ = 0 := rfl
theorem phi_first (c : Dev nD) : (dat V c).Φ t0_0.castSucc = phiIn V c := rfl
theorem phi_last (c : Dev nD) : (dat V c).Φ t0_0.succ = phiOut c := rfl

theorem owes_in (c : Dev nD) (t : Fin (cfg0.N + 1)) (O : CellTallies nD τ sig Unit) (h0 : (dat V c).owed t = O) (W : Waits sig Unit) :
    owes (c : Thread nD τ) O W ⊢ ((dat V c).owesAt () t : sProp 𝕄) := by
  unfold Dat.owesAt Pipeline.owesWithin Dat.bound
  rw [h0]
  iintro H
  iexists W
  isplitr
  · ipureintro; exact fun _ _ => Or.inl trivial
  · iexact H

theorem owes_out (c : Dev nD) (t : Fin (cfg0.N + 1)) (O : CellTallies nD τ sig Unit) (h0 : (dat V c).owed t = O) :
    (dat V c).owesAt () t ⊢ (iprop(∃ W, owes (c : Thread nD τ) O W) : sProp 𝕄) := by
  unfold Dat.owesAt Pipeline.owesWithin
  rw [h0]
  iintro ⟨%W, -, H⟩
  iexists W
  iexact H

theorem side_in (s : Bool) (c : Dev nD) : iprop(sideOpen s c ∗ scr s c) ⊢ (side (F := F) s c : sProp 𝕄) := by
  unfold sideOpen side
  iintro ⟨⟨HA, HB, HC⟩, Hs⟩
  isplitl [HA]; · iexact HA
  isplitl [HB]; · iexact HB
  rw [bigSep_sep']
  isplitl [Hs]; · iapply (scr_slots (F := F) s c).1 $$ Hs
  iexact HC

theorem side_out (s : Bool) (c : Dev nD) : sideEnd (F := F) s c ⊢ (iprop(quiet s c ∗ scr s c) : sProp 𝕄) := by
  unfold sideEnd quiet
  iintro ⟨HA, HB⟩
  isplitl [HA]; · iexact HA
  iapply (scr_slots (F := F) s c).2 $$ HB

set_option maxRecDepth 65536 in
theorem body (hV : Tables V) (c : Dev nD) : Pipeline.BodyObligation (dat V c) (defs₀ (F := F)) 𝒱₀ () Set.univ := by
  intro t
  rw [fin_N0 t]
  show _ ⊢ wp frame (wpE (defs₀ (F := F)) 𝒱₀ (c : Thread nD τ) none) Set.univ (bodyAt0 (F := F) t0_0) _
  rw [body_eq, phi_first, phi_last]
  iintro ⟨HP, HO, HW⟩
  ihave HO' := (owes_out V c t0_0.castSucc (O₀ c) (owed_first V c)) $$ HO
  icases HO' with ⟨%W, HO⟩
  ihave HW' := (windows_in V hV c) $$ HW
  icases HW' with ⟨Hw, Hx, Hp⟩
  unfold phiIn Xk lore
  icases HP with ⟨⟨⟨%κ, %I, %hI, HI⟩, HL, Hg, HsR, HsL⟩, ⟨HcR, HcL⟩, Hr⟩
  haveI := hI.1
  iapply (wp_folded (chunk V) (scaleX V c) (scaleW V c) (rfac V c) hI.2 c W _) $$ [HI HL Hg HsR HsL HcR HcL Hw Hx Hp HO]
  · isplitl [HI]; · iexact HI
    isplitl [HL]; · iexact HL
    isplitl [Hg HsR HsL HcR HcL]
    · isplitl [Hg]; · iexact Hg
      isplitl [HsR HcR]
      · iapply (side_in (F := F) true c)
        isplitl [HsR]; · iexact HsR
        iexact HcR
      iapply (side_in (F := F) false c)
      isplitl [HsL]; · iexact HsL
      iexact HcL
    isplitl [Hw]; · iexact Hw
    isplitl [Hx]; · iexact Hx
    isplitl [Hp]; · iexact Hp
    iexact HO
  iintro ⟨Hb, HeR, HeL, Hw, Hx, Hp, ⟨%W', HO⟩⟩
  ihave HR := (side_out (F := F) true c) $$ HeR
  ihave HL := (side_out (F := F) false c) $$ HeL
  icases HR with ⟨HqR, HcR⟩
  icases HL with ⟨HqL, HcL⟩
  isplitl [Hb HqR HqL HcR HcL Hr]
  · unfold phiOut
    isplitl [Hb]; · iexact Hb
    isplitl [HqR HqL]
    · isplitl [HqR]; · iexact HqR
      iexact HqL
    isplitl [HcR HcL]
    · isplitl [HcR]; · iexact HcR
      iexact HcL
    iexact Hr
  isplitl [HO]; · iapply (owes_in V c t0_0.succ 0 (owed_last V c) W') $$ HO
  iapply (windows_out V c)
  isplitl [Hw]; · iexact Hw
  isplitl [Hx]; · iexact Hx
  iexact Hp

end Cert.KernelIdeal.Ring

end
-- ==== Proof.Deal.lean ====
/-
Opening the scoped cells at the region's entry, and what is dealt at launch: the credits against every arrival, the payers' tokens.
-/
module

public import proofs.«01_k».proof.Proof.Window

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells of a device by direction -/

/-- Something of the send and the receive cell of every hop. -/
def pairs (Φ : GSem nD τ sig → sProp 𝕄) (s : Bool) (c : Dev nD) : sProp 𝕄 :=
  bigSep Finset.univ fun h : Fin (len s) => iprop(Φ (sndCell s c h) ∗ Φ (rcvCell s c h))

omit [FloatOps F] in
theorem own_pairs (Φ : GSem nD τ sig → sProp 𝕄) (c : Dev nD) :
    (bigSep Finset.univ fun k : Own => Φ ((c : Thread nD τ), osem k)) = iprop(pairs Φ true c ∗ pairs Φ false c) := by
  rw [bigSep_univ_sum, bigSep_univ_sum, bigSep_univ_sum]
  unfold pairs
  rw [bigSep_sep', bigSep_sep']
  rfl

theorem ownSems_eq (c : Dev nD) : (Pipeline.ownSems0 osem c : sProp 𝕄) = iprop(quiet true c ∗ quiet false c) :=
  own_pairs (fun g => semVal g 0) c

variable (V : Dev nD → Valuation τ sig (Elt F))

/-- A cell opened. -/
def opened (g : GSem nD τ sig) : sProp 𝕄 := iprop(atPos ER g 0 ∅ 0 ∗ reached ER g 0)

theorem open_side (X : Dev nD → S128x4096.Idx → Elt F .fp8e4m3) {κ : GSem nD τ sig → ℕ} {I : sProp 𝕄} [BI.Persistent I] (hI : Knows X κ I) (s : Bool) (c : Dev nD) :
    iprop(I ∗ pairs (fun g => openTok ER g) s c ∗ quiet s c) ⊢ (|={Set.univ}=> pairs opened s c : sProp 𝕄) := by
  have h1 : iprop(pairs (fun g => openTok ER g) s c ∗ quiet s c)
      ⊢ (bigSep Finset.univ fun h : Fin (len s) => iprop((openTok ER (sndCell s c h) ∗ openTok ER (rcvCell s c h)) ∗ (semVal (sndCell s c h) 0 ∗ semVal (rcvCell s c h) 0)) : sProp 𝕄) := by
    unfold pairs quiet
    rw [← bigSep_sep']
  have h2 : ∀ h ∈ (Finset.univ : Finset (Fin (len s))), iprop(I ∗ ((openTok ER (sndCell s c h) ∗ openTok ER (rcvCell s c h)) ∗ (semVal (sndCell s c h) 0 ∗ semVal (rcvCell s c h) 0)))
      ⊢ (|={Set.univ}=> iprop(opened (sndCell s c h) ∗ opened (rcvCell s c h)) : sProp 𝕄) := by
    intro h _
    unfold opened
    iintro ⟨#HI, ⟨Ho1, Ho2⟩, Hv1, Hv2⟩
    imod (Rounds.cell_open ER (ringRd X) (g := sndCell s c h) (Set.mem_univ (κ (sndCell s c h)))) $$ [Ho1 Hv1] with H1
    · isplitr; · iapply (hI _ (snd_mem s c h)); iexact HI
      isplitl [Ho1]; · iexact Ho1
      iexact Hv1
    imod (Rounds.cell_open ER (ringRd X) (g := rcvCell s c h) (Set.mem_univ (κ (rcvCell s c h)))) $$ [Ho2 Hv2] with H2
    · isplitr; · iapply (hI _ (rcv_mem s c h)); iexact HI
      isplitl [Ho2]; · iexact Ho2
      iexact Hv2
    imodintro
    isplitl [H1]; · iexact H1
    iexact H2
  unfold pairs at h1 ⊢
  exact ((sep_mono_right h1).trans (bigSep_with_persistent h2)).trans (bigSep_fupd _ _)

/-- The tokens a device pays with in one direction, and its credits against the arrivals. -/
def purse (s : Bool) (c : Dev nD) : sProp 𝕄 :=
  iprop((bigSep Finset.univ fun h : Fin (len s) => iprop(dutyTok ER (sndCell s c h) 0 true ∗ dutyTok ER (rcvCell s (fwd s c) h) 0 true))
    ∗ bigSep Finset.univ fun h : Fin (len s) => cred (tallyAt (rcvCell s c h) () N))

omit [FloatOps F] in
theorem regroup (a b c d e f g : sProp 𝕄) : iprop(((a ∗ b) ∗ c ∗ d) ∗ (e ∗ f) ∗ g) ⊢ iprop(((e ∗ b ∗ a) ∗ f) ∗ (g ∗ c) ∗ d) := by
  iintro ⟨⟨⟨Ha1, Hr1⟩, Ha2, Hr2⟩, ⟨Ht1, Ht2⟩, Hc⟩
  isplitl [Ht1 Hr1 Ha1 Ht2]
  · isplitl [Ht1 Hr1 Ha1]
    · isplitl [Ht1]; · iexact Ht1
      isplitl [Hr1]; · iexact Hr1
      iexact Ha1
    iexact Ht2
  isplitl [Hc Ha2]
  · isplitl [Hc]; · iexact Hc
    iexact Ha2
  iexact Hr2

theorem side_open (s : Bool) (c : Dev nD) : iprop(pairs opened s c ∗ purse s c) ⊢ (sideOpen (F := F) s c : sProp 𝕄) := by
  unfold pairs purse sideOpen
  rw [← bigSep_sep', ← bigSep_sep', ← bigSep_sep', ← bigSep_sep']
  refine bigSep_mono fun h _ => ?_
  exact regroup _ _ _ _ _ _ _

/-- What a device carries from launch to the region. -/
def Tk (c : Dev nD) : sProp 𝕄 :=
  iprop(lore V ∗ gate c ∗ (pairs (fun g => openTok ER g) true c ∗ pairs (fun g => openTok ER g) false c) ∗ (purse true c ∗ purse false c))

theorem hopen (c : Dev nD) : iprop(Tk V c ∗ Pipeline.ownSems0 osem c ∗ levAts L lv) ⊢ (|={Set.univ}=> Xk V c : sProp 𝕄) := by
  rw [ownSems_eq]
  unfold Tk Xk lore
  iintro ⟨⟨⟨%κ, %I, %hI, HI⟩, Hg, ⟨HoR, HoL⟩, HuR, HuL⟩, ⟨HqR, HqL⟩, HL⟩
  haveI := hI.1
  icases HI with #HI
  imod (open_side (chunk V) hI.2 true c) $$ [HoR HqR] with HR
  · isplitr; · iexact HI
    isplitl [HoR]; · iexact HoR
    iexact HqR
  imod (open_side (chunk V) hI.2 false c) $$ [HoL HqL] with HLf
  · isplitr; · iexact HI
    isplitl [HoL]; · iexact HoL
    iexact HqL
  imodintro
  isplitr
  · iexists κ
    iexists I
    isplitr; · ipureintro; exact hI
    iexact HI
  isplitl [HL]; · iexact HL
  isplitl [Hg]; · iexact Hg
  isplitl [HR HuR]
  · iapply (side_open (F := F) true c)
    isplitl [HR]; · iexact HR
    iexact HuR
  iapply (side_open (F := F) false c)
  isplitl [HLf]; · iexact HLf
  iexact HuL

/-! ## The credits -/

theorem rcv_other {s s' : Bool} (hs : s ≠ s') (c c' : Dev nD) (h : Fin (len s)) (h' : Fin (len s')) : rcvCell s c h ≠ rcvCell s' c' h' := by
  intro e
  have e1 : (rcv s h).val = (rcv s' h').val := by
    have := congrArg (fun g : GSem nD τ sig => g.2) e
    exact congrArg Fin.val (SemLoc.dma.inj this)
  rw [rcv_val, rcv_val] at e1
  have hh := h.isLt
  have hh' := h'.isLt
  have t1 : rcvBase true = 25 := rfl
  have t2 : rcvBase false = 56 := rfl
  have t3 : len true = 16 := rfl
  have t4 : len false = 15 := rfl
  cases s <;> cases s' <;> first | exact hs rfl | omega

theorem rcv_same {s : Bool} {c c' : Dev nD} {h h' : Fin (len s)} (e : rcvCell s c h = rcvCell s c' h') : c = c' ∧ h = h' := by
  refine ⟨Fin.ext (congrArg (fun g : GSem nD τ sig => g.1.1.val) e), ?_⟩
  have e1 : (rcv s h).val = (rcv s h').val := by
    have := congrArg (fun g : GSem nD τ sig => g.2) e
    exact congrArg Fin.val (SemLoc.dma.inj this)
  rw [rcv_val, rcv_val] at e1
  exact Fin.ext (by omega)

theorem bar_ne_rcv (s : Bool) (c c' : Dev nD) (h : Fin (len s)) : barCell c ≠ rcvCell s c' h := fun e => nomatch congrArg (fun g : GSem nD τ sig => g.2) e

theorem dues_none (s : Bool) (c : Dev nD) (k : ℕ) (g : GSem nD τ sig) (h : ∀ j : Fin (len s), g ≠ rcvCell s (fwd s c) j) : dues s c k g () = 0 := by
  by_contra hne
  obtain ⟨j, -, e⟩ := dues_pos (Nat.pos_of_ne_zero hne)
  exact h j e

theorem dues_at (s : Bool) (d c : Dev nD) (h : Fin (len s)) : dues s d 0 (rcvCell s c h) () = if d = back s c then N else 0 := by
  by_cases hd : d = back s c
  · rw [if_pos hd]
    subst hd
    unfold dues
    rw [Finset.sum_apply, Finsupp.finset_sum_apply, fwd_back, Finset.sum_eq_single h]
    · rw [tallyAt_apply, if_pos ⟨rfl, rfl⟩]
    · intro j _ hj
      rw [tallyAt_apply, if_neg (fun e => hj (rcv_same e.1).2.symm)]
    · intro hn
      exact absurd (Finset.mem_filter.mpr ⟨Finset.mem_univ h, Nat.zero_le h.val⟩) hn
  · rw [if_neg hd]
    exact dues_none s d 0 _ fun j e => hd (by rw [(rcv_same e).1, back_fwd])

theorem bar_at (s : Bool) (d c : Dev nD) : (tallyAt (barCell (back s d)) () 1 : CellTallies nD τ sig Unit) (barCell c) () = if d = fwd s c then 1 else 0 := by
  rw [tallyAt_apply]
  by_cases hd : d = fwd s c
  · subst hd
    rw [back_fwd, if_pos ⟨rfl, rfl⟩, if_pos rfl]
  · rw [if_neg hd, if_neg]
    rintro ⟨e, -⟩
    apply hd
    have : c = back s d := Fin.ext (congrArg (fun g : GSem nD τ sig => g.1.1.val) e)
    rw [this, fwd_back]

theorem owed_rcv (s : Bool) (d c : Dev nD) (h : Fin (len s)) : O₀ d (rcvCell s c h) () = if d = back s c then N else 0 := by
  have hb : ∀ s', (tallyAt (barCell (back s' d)) () 1 : CellTallies nD τ sig Unit) (rcvCell s c h) () = 0 := fun s' => by
    rw [tallyAt_apply, if_neg (fun e => bar_ne_rcv s _ _ _ e.1.symm)]
  unfold O₀
  simp only [Pi.add_apply, Finsupp.add_apply, hb, Nat.add_zero]
  cases s
  · rw [dues_at, dues_none true d 0 _ fun j => rcv_other (by decide) _ _ _ _, Nat.zero_add]
  · rw [dues_at, dues_none false d 0 _ fun j => rcv_other (by decide) _ _ _ _, Nat.add_zero]

theorem owed_bar (d c : Dev nD) : O₀ d (barCell c) () = (if d = fwd false c then 1 else 0) + if d = fwd true c then 1 else 0 := by
  unfold O₀
  simp only [Pi.add_apply, Finsupp.add_apply]
  rw [dues_none true d 0 _ fun j => bar_ne_rcv _ _ _ _, dues_none false d 0 _ fun j => bar_ne_rcv _ _ _ _, bar_at, bar_at, Nat.zero_add]

theorem launch_rcv (s : Bool) (c : Dev nD) (h : Fin (len s)) :
    tallyOn (rcvCell s c h) (launchCredit (Pipeline.owing O₀) 0 (rcvCell s c h)) = (tallyAt (rcvCell s c h) () N : CellTallies nD τ sig Unit) := by
  unfold tallyAt
  refine congrArg _ (Finsupp.ext fun u => ?_)
  rw [Pipeline.launchCredit_owing, Finsupp.single_eq_same, Finset.sum_congr rfl fun d _ => owed_rcv s d c h, Finset.sum_ite_eq' Finset.univ (back s c) fun _ => N,
    if_pos (Finset.mem_univ _)]

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  rw [Pipeline.launchCredit_owing, Finsupp.single_eq_same, Finset.sum_congr rfl fun d _ => owed_bar d c, Finset.sum_add_distrib,
    Finset.sum_ite_eq' Finset.univ (fwd false c) fun _ => 1, Finset.sum_ite_eq' Finset.univ (fwd true c) fun _ => 1, if_pos (Finset.mem_univ _), if_pos (Finset.mem_univ _)]

/-- The receive semaphores of both directions. -/
def rcvEmb : Fin 16 ⊕ Fin 15 ↪ SemLoc sig :=
  ⟨fun | .inl h => .dma (rcv true h) | .inr h => .dma (rcv false h), by
    rintro (h | h) (h' | h') e
    · exact congrArg Sum.inl ((rcv_same (s := true) (c := (0 : Dev nD)) (c' := (0 : Dev nD)) (h := h) (h' := h') (congrArg (Prod.mk _) e)).2)
    · exact absurd (congrArg (Prod.mk ((0 : Dev nD) : Thread nD τ)) e) (rcv_other (s := true) (s' := false) (by decide) 0 0 h h')
    · exact absurd (congrArg (Prod.mk ((0 : Dev nD) : Thread nD τ)) e) (rcv_other (s := false) (s' := true) (by decide) 0 0 h h')
    · exact congrArg Sum.inr ((rcv_same (s := false) (c := (0 : Dev nD)) (c' := (0 : Dev nD)) (h := h) (h' := h') (congrArg (Prod.mk _) e)).2)⟩

/-- The launch gives every device credit against its barrier and against every arrival. -/
theorem creds (c : Dev nD) :
    (Pipeline.launchCred O₀ c : sProp 𝕄) ⊢ iprop(cred (tallyAt (barCell c) () 2) ∗ (bigSep Finset.univ fun h : Fin (len true) => cred (tallyAt (rcvCell true c h) () N))
      ∗ bigSep Finset.univ fun h : Fin (len false) => cred (tallyAt (rcvCell false c h) () N)) := by
  unfold Pipeline.launchCred
  rw [bigSep_univ_at _ (SemLoc.reg barS), launch_bar]
  refine sep_mono_right ?_
  have hsub : Finset.univ.map rcvEmb ⊆ (Finset.univ.erase (SemLoc.reg barS) : Finset (SemLoc sig)) := by
    intro x hx
    obtain ⟨k, -, rfl⟩ := Finset.mem_map.mp hx
    refine Finset.mem_erase.mpr ⟨?_, Finset.mem_univ _⟩
    rcases k with h | h <;> exact fun e => nomatch e
  refine (bigSep_subset hsub).trans ?_
  rw [bigSep_map, bigSep_univ_sum]
  refine sep_mono ?_ ?_
  · exact Entails.of_eq (bigSep_congr fun h _ => congrArg cred (launch_rcv true c h))
  · exact Entails.of_eq (bigSep_congr fun h _ => congrArg cred (launch_rcv false c h))

end Cert.KernelIdeal.Ring

end
-- ==== Proof.Region.lean ====
/-
The region: from the protocol's opening to every counter back at zero, the result array left at the result.
-/
module

public import proofs.«01_k».proof.Proof.Deal
public import Idealize.ShloMosaic.Lib.Pipeline.RegionTalk
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

variable (V : Dev nD → Valuation τ sig (Elt F))

/-! ## Around the region -/

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (cfgs 0).spec c ∗ (∃ r, prngReg c r) ∗ StableHlo.held (c.tc : Thread nD τ) ∅ (V c) ∗ Xk V c)
    ⊢ ((pdats V 0 c).Φ 0 : sProp 𝕄) := by
  show _ ⊢ phiIn V c
  rw [held_none]
  unfold phiIn
  rw [show (Pipeline.scopedRest (cfgs 0).spec c : sProp 𝕄) = iprop(scr true c ∗ scr false c) from scopedRest0_eq c]
  iintro ⟨Hs, Hr, -, HX⟩
  isplitl [HX]; · iexact HX
  isplitl [Hs]; · iexact Hs
  iexact Hr

theorem hout (W : Valuation τ sig (Elt F)) (c : Dev nD) : (pdats V 0 c).Φ (Fin.last (cfgs 0).N)
    ⊢ (iprop(Pipeline.scopedRest (cfgs 0).spec c ∗ (∃ r, prngReg c r) ∗ StableHlo.held (c.tc : Thread nD τ) ∅ W ∗ Pipeline.ownSems0 osem c ∗ semVal (barCell c) 0) : sProp 𝕄) := by
  show phiOut c ⊢ _
  rw [held_none, ownSems_eq]
  unfold phiOut
  rw [show (Pipeline.scopedRest (cfgs 0).spec c : sProp 𝕄) = iprop(scr true c ∗ scr false c) from scopedRest0_eq c]
  iintro ⟨Hb, Hq, Hs, Hr⟩
  isplitl [Hs]; · iexact Hs
  isplitl [Hr]; · iexact Hr
  isplitr; · iempintro
  isplitl [Hq]; · iexact Hq
  iexact Hb

theorem owed_above {c : Dev nD} {g : GSem nD τ sig} {u : Unit} (h : 0 < O₀ c g u) : u ∈ L g ∧ 0 < lv g u := by
  unfold O₀ at h
  rcases add_pos_cases h with h | h
  · rcases add_pos_cases h with h | h
    · rcases add_pos_cases h with h | h <;> obtain ⟨j, -, rfl⟩ := dues_pos h <;>
        exact ⟨by rw [L_tc]; exact Finset.mem_singleton_self _, by rw [lv_rcv]; omega⟩
    · obtain rfl := tally_pos h
      exact ⟨by rw [L_tc]; exact Finset.mem_singleton_self _, by rw [lv_bar]; decide⟩
  · obtain rfl := tally_pos h
    exact ⟨by rw [L_tc]; exact Finset.mem_singleton_self _, by rw [lv_bar]; decide⟩

theorem stage_low : ∀ (w : Fin 9) (s : Fin (cfg0.win w).nbuf), ((cfg0.win w).sem s).val < 9 := by decide

theorem lv_low (c : Dev nD) (q : DmaSem sig) (h : q.val < 9) : lv ((c : Thread nD τ), .dma q) () = 0 := by
  show (if 25 ≤ q.val ∧ q.val < 41 then 2 + (q.val - 25) else if 56 ≤ q.val ∧ q.val < 71 then 2 + (q.val - 56) else 0) = 0
  rw [if_neg (by omega), if_neg (by omega)]

theorem cut : Pipeline.LevelCutOwed (pcfgs (F := F)) adm (pdats V) () L lv 0 fun _ => 0 where
  hι c _ _ := by rw [L_tc]; exact Finset.mem_singleton_self _
  hιb c w s := (lv_low c _ (stage_low w s)).le
  hD c t g i h := by
    have e : (pdats V 0 c).owed t = if t.val = 0 then O₀ c else 0 := rfl
    rw [e] at h
    split at h
    · exact owed_above h
    · exact absurd h (Nat.lt_irrefl 0)

/-! ## The arrays at its end -/

/-- The buffers after the region. -/
def W' (c : Dev nD) : Valuation τ sig (Elt F) := Function.update (V c) (Proc.devRef .tc main_v50) (total V c)

theorem W'_result (c : Dev nD) : W' V c main_v50 = total V c := Function.update_self _ _ _
theorem W'_other (c : Dev nD) (b : DevRef τ sig) (hb : b ≠ Proc.devRef .tc main_v50) : W' V c b = V c b := Function.update_of_ne hb _ _

theorem index_zero (t : Fin cfg0.N) (a : Fin 2) : win0_8.index t a = 0 := by fin_cases a <;> rfl

theorem flushed_eq (c : Dev nD) (t : Fin cfg0.N) : (dat V c).flushed (8 : Fin 9) t = ((cfg0.win (8 : Fin 9)).blk t).view.read (Elt F) (total V c) := by
  have hz : (fun a => (win0_8.index t) a * main_v50.ty.shape.size a) = fun _ => 0 := funext fun a =>
    (congrArg (· * _) (index_zero t a)).trans (Nat.zero_mul _)
  exact (Memref.read_access_unit_zero (Elt F) main_v50 hz (fun a => by rw [congrFun hz a]; exact (Nat.zero_add _).le) (total V c)).symm

theorem cover (i : S4096x256.Idx) : ∃ t : Fin cfg0.N, (cfg0.win (8 : Fin 9)).flush t = true ∧ i ∈ ((cfg0.win (8 : Fin 9)).blk t).view.set := by
  refine ⟨t0_0, flush0_8 _, ?_⟩
  show i ∈ ((View.whole main_v50).slice (win0_8.rect t0_0)).set
  rw [View.set_slice_whole, Rect.mem_set_unit]
  intro a
  have e : win0_8.kind.off (win0_8.index t0_0 a) (win0_8.size a) = 0 := (congrArg (· * win0_8.size a) (index_zero t0_0 a)).trans (Nat.zero_mul _)
  rw [e, Nat.zero_add]
  exact ⟨Nat.zero_le _, (i a).isLt⟩

theorem arr_result (c : Dev nD) : (dat V c).arrAt (8 : Fin 9) cfg0.N = total V c :=
  (dat V c).arrAt_eq_of_cover (8 : Fin 9) (total V c) (fun t _ => flushed_eq V c t) cover

theorem arr_in (c : Dev nD) (w : Fin 9) (hw : (cfg0.win w).isOut = false) : (dat V c).arrAt w cfg0.N = (dat V c).A w := (dat V c).arrAt_in w hw _

theorem kept (c : Dev nD) (r : Ref sig .tc) (h : r ≠ main_v50) : V c r = W' V c r := (W'_other V c r (StableHlo.devRef_ne_of_ne h)).symm

theorem arr_start (c : Dev nD) : ∀ w : Fin 9, (pdats V 0 c).arrAt w 0 = V c (Proc.devRef .tc (Pipeline.arrRef (cfgs 0).spec w)) := by
  intro w
  fin_cases w <;> rfl

theorem in_ne : ∀ w : Fin 9, (cfg0.win w).isOut = false → Pipeline.arrRef (cfgs 0).spec w ≠ main_v50 := by decide
theorem out_eq : ∀ w : Fin 9, ¬ (cfg0.win w).isOut = false → w = 8 := by decide

theorem arr_end (c : Dev nD) (w : Fin 9) : (pdats V 0 c).arrAt w (cfgs 0).N = W' V c (Proc.devRef .tc (Pipeline.arrRef (cfgs 0).spec w)) := by
  by_cases hw : (cfg0.win w).isOut = false
  · exact (arr_in V c w hw).trans ((arr_start V c w).trans (kept V c _ (in_ne w hw)))
  · obtain rfl := out_eq w hw
    exact (arr_result V c).trans (W'_result V c).symm

/-- The unscoped buffers that are no window's array. -/
def Sr : Finset (DevRef τ sig) := Pipeline.ucRefs τ sig \ Pipeline.arrRefs (τ := τ) (cfgs 0).spec

theorem rest_same (c : Dev nD) : ∀ b ∈ Sr \ ∅, W' V c b = V c b := by
  intro b hb
  refine W'_other V c b ?_
  rintro rfl
  rw [Finset.sdiff_empty] at hb
  exact (Finset.mem_sdiff.mp hb).2 (by decide)

theorem ownFacts : Pipeline.OwnSemFacts spec0 osem := by decide

set_option backward.isDefEq.respectTransparency.types false in
def reg (hV : Tables V) : Pipeline.RegionSeg (pcfgs (F := F)) adm (pdats V) () defs₀ 𝒱₀ L lv 0 :=
  Pipeline.RegionSeg.ofTalk (pcfgs (F := F)) adm (pdats V) () defs₀ 𝒱₀ L lv 0 osem ownFacts
    ∅ Sr (Finset.empty_subset _) launch0.toP rfl (fun c => (body V hV c).loose)
    (fun _ => 0) O₀ (fun c => (owed_first V c).trans (zero_add _).symm) (owed_last V) (fun _ => rfl) (fun _ w => by fin_cases w <;> rfl)
    V (W' V) (rest_same V)
    (Tk V) (fun c => semVal (barCell c) 0) (Xk V) (fun c => semVal (barCell c) 0) (hopen V) (hin V) (fun c => hout V (W' V c) c)
    (fun c => by iintro H; imodintro; iexact H)
    (fun _ => 0) (cut V)
    (fun _ => iprop(emp))
    (fun c w => arr_start V c w) (fun c w => arr_end V c w)

end Cert.KernelIdeal.Ring

end
-- ==== Proof.Launch.lean ====
/-
The launch: every cell's invariant made, the credits and tokens dealt, and the whole run.
-/
module

public import proofs.«01_k».proof.Proof.Region
public import Idealize.ShloMosaic.Lib.Pipeline.Regions

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Seg HostSeg RegionSeg)

variable (V : Dev nD → Valuation τ sig (Elt F))

/-! ## The region between the host operations and the end -/

/-- What rides along with the buffers until the region. -/
def R (c : Dev nD) : sProp 𝕄 := iprop(Tk V c ∗ (∃ r, prngReg c r) ∗ ∃ W, owes (c : Thread nD τ) (O₀ c) W)

theorem arr_sub : Pipeline.arrRefs (τ := τ) (cfgs 0).spec ⊆ Pipeline.ucRefs τ sig := by decide

theorem reg_pre (hV : Tables V) (c : Dev nD) : iprop(StableHlo.held (c : Thread nD τ) (Pipeline.ucRefs τ sig) (V c) ∗ R V c) ⊢ (reg V hV).pre c := by
  show _ ⊢ iprop(StableHlo.held (c.tc : Thread nD τ) (Pipeline.arrRefs (τ := τ) (cfgs 0).spec) (V c) ∗ (∃ r, prngReg c r)
    ∗ (StableHlo.held (c.tc : Thread nD τ) Sr (V c) ∗ emp) ∗ Tk V c ∗ ∃ Wd, owes (c : Thread nD τ) (0 + O₀ c) Wd)
  rw [zero_add, StableHlo.held_sub_split (c : Thread nD τ) arr_sub (V c)]
  unfold R Sr
  iintro ⟨⟨HA, HS⟩, HT, Hr, HO⟩
  isplitl [HA]; · iexact HA
  isplitl [Hr]; · iexact Hr
  isplitl [HS]
  · isplitl [HS]; · iexact HS
    iempintro
  isplitl [HT]; · iexact HT
  iexact HO

theorem reg_post (hV : Tables V) (c : Dev nD) : (reg V hV).post c
    ⊢ iprop((StableHlo.held (c : Thread nD τ) (Pipeline.ucRefs τ sig) (W' V c) ∗ semVal (barCell c) 0) ∗ ∃ W, owes (c : Thread nD τ) (0 : CellTallies nD τ sig Unit) W) := by
  show iprop(StableHlo.held (c.tc : Thread nD τ) (Pipeline.arrRefs (τ := τ) (cfgs 0).spec) (W' V c) ∗ (∃ r, prngReg c r)
    ∗ (StableHlo.held (c.tc : Thread nD τ) Sr (W' V c) ∗ emp) ∗ semVal (barCell c) 0 ∗ ∃ Wd, owes (c : Thread nD τ) (0 : CellTallies nD τ sig Unit) Wd) ⊢ _
  rw [StableHlo.held_sub_split (c : Thread nD τ) arr_sub (W' V c)]
  unfold Sr
  iintro ⟨HA, -, ⟨HS, -⟩, Hb, HO⟩
  isplitl [HA HS Hb]
  · isplitl [HA HS]
    · isplitl [HA]; · iexact HA
      iexact HS
    iexact Hb
  iexact HO

/-! ## The tokens -/

def tokEmb : Dev nD × (Bool ⊕ Own) ↪ GSem nD τ sig × ℕ × Bool :=
  ⟨fun p => match p.2 with
    | .inl b => (barCell p.1, 0, b)
    | .inr k => (((p.1 : Thread nD τ), osem k), 0, true), by
    rintro ⟨c, b | k⟩ ⟨c', b' | k'⟩ e
    · have h1 : c = c' := Fin.ext (congrArg (fun x : GSem nD τ sig × ℕ × Bool => x.1.1.1.val) e)
      have h2 : b = b' := congrArg (fun x : GSem nD τ sig × ℕ × Bool => x.2.2) e
      rw [h1, h2]
    · exact absurd (congrArg (fun x : GSem nD τ sig × ℕ × Bool => x.1.2) e).symm (osem_ne_bar k')
    · exact absurd (congrArg (fun x : GSem nD τ sig × ℕ × Bool => x.1.2) e) (osem_ne_bar k)
    · have h1 : c = c' := Fin.ext (congrArg (fun x : GSem nD τ sig × ℕ × Bool => x.1.1.1.val) e)
      have h2 : k = k' := osem_inj (congrArg (fun x : GSem nD τ sig × ℕ × Bool => x.1.2) e)
      rw [h1, h2]⟩

/-- The token of every duty. -/
def allToks : Finset (GSem nD τ sig × ℕ × Bool) := Finset.univ.map tokEmb

def hands (s : Bool) (c : Dev nD) : sProp 𝕄 :=
  bigSep Finset.univ fun h : Fin (len s) => iprop(dutyTok ER (sndCell s c h) 0 true ∗ dutyTok ER (rcvCell s (fwd s c) h) 0 true)

theorem toks_eq : bigSep allToks (fun x => (dutyTok ER x.1 x.2.1 x.2.2 : sProp 𝕄))
    = bigSep Finset.univ fun c : Dev nD => iprop((dutyTok ER (barCell c) 0 true ∗ dutyTok ER (barCell c) 0 false)
        ∗ (pairs (fun g => dutyTok ER g 0 true) true c ∗ pairs (fun g => dutyTok ER g 0 true) false c)) := by
  unfold allToks
  rw [bigSep_map, bigSep_univ_prod]
  refine bigSep_congr fun c _ => ?_
  rw [bigSep_univ_sum, ← own_pairs]
  rw [bool_univ, bigSep_insert (by decide), bigSep_singleton]
  rfl

theorem hands_around (s : Bool) : (bigSep Finset.univ fun c : Dev nD => (pairs (fun g => dutyTok ER g 0 true) s c : sProp 𝕄)) = bigSep Finset.univ fun c : Dev nD => hands s c := by
  have e1 : ∀ c : Dev nD, (pairs (fun g => dutyTok ER g 0 true) s c : sProp 𝕄)
      = iprop((bigSep Finset.univ fun h : Fin (len s) => dutyTok ER (sndCell s c h) 0 true) ∗ bigSep Finset.univ fun h : Fin (len s) => dutyTok ER (rcvCell s c h) 0 true) :=
    fun c => bigSep_sep' _ _ _
  have e2 : ∀ c : Dev nD, (hands s c : sProp 𝕄)
      = iprop((bigSep Finset.univ fun h : Fin (len s) => dutyTok ER (sndCell s c h) 0 true) ∗ bigSep Finset.univ fun h : Fin (len s) => dutyTok ER (rcvCell s (fwd s c) h) 0 true) :=
    fun c => bigSep_sep' _ _ _
  rw [bigSep_congr fun c _ => e1 c, bigSep_congr fun c _ => e2 c, bigSep_sep', bigSep_sep',
    bigSep_univ_equiv (step s) (fun c : Dev nD => (bigSep Finset.univ fun h : Fin (len s) => dutyTok ER (rcvCell s c h) 0 true : sProp 𝕄))]
  rfl

theorem toks_around : (bigSep Finset.univ fun c : Dev nD => iprop((dutyTok ER (barCell c) 0 true ∗ dutyTok ER (barCell c) 0 false)
        ∗ (pairs (fun g => dutyTok ER g 0 true) true c ∗ pairs (fun g => dutyTok ER g 0 true) false c)))
    = (bigSep Finset.univ fun c : Dev nD => iprop((dutyTok ER (barCell (back true c)) 0 true ∗ dutyTok ER (barCell (back false c)) 0 false) ∗ (hands true c ∗ hands false c)) : sProp 𝕄) := by
  rw [bigSep_sep', bigSep_sep', bigSep_sep', hands_around, hands_around, bigSep_sep', bigSep_sep', bigSep_sep',
    bigSep_univ_equiv (stepBack true) (fun c : Dev nD => (dutyTok ER (barCell c) 0 true : sProp 𝕄)),
    bigSep_univ_equiv (stepBack false) (fun c : Dev nD => (dutyTok ER (barCell c) 0 false : sProp 𝕄))]
  rfl

/-! ## The launch element -/

def u₀ : UU := (initOf (Pipeline.cells cfgs cellOf_inj) (Pipeline.launchToks cfgs cellOf_inj), launchOf barCells ownCells allToks)

/-- All of a resource on the first device. -/
def atFirst (Y : sProp 𝕄) (c : Dev nD) : sProp 𝕄 := if c = 0 then Y else iprop(emp)
theorem bigSep_atFirst (Y : sProp 𝕄) : bigSep Finset.univ (atFirst Y) = Y := by
  rw [bigSep_univ_at _ (0 : Dev nD), bigSep_congr (s := Finset.univ.erase (0 : Dev nD)) (Ψ := fun _ => (BI.emp : sProp 𝕄))
      fun c hc => by unfold atFirst; rw [if_neg (Finset.ne_of_mem_erase hc)]; rfl, BI.bigSep_emp_const]
  unfold atFirst; rw [if_pos rfl]
  exact BI.equiv_iff.mp sep_emp

def G : Dev nD → sProp 𝕄 := atFirst (BI.own (ER (launchOf barCells ownCells allToks)))

theorem fund : (ownU u₀ : sProp 𝕄)
    ⊢ |={Set.univ}=> iprop(BI.own (EP (initOf (Pipeline.cells cfgs cellOf_inj) (Pipeline.launchToks cfgs cellOf_inj))) ∗ bigSep Finset.univ G) := by
  unfold u₀ G
  rw [bigSep_atFirst]
  iintro Hu
  ihave H := (ownU_pair _ _) $$ Hu
  icases H with ⟨HP, HX⟩
  imodintro
  isplitl [HP]; · iexact HP
  iexact HX

/-! ## Dealing -/

/-- What every device may consult. -/
def records (X : Dev nD → S128x4096.Idx → Elt F .fp8e4m3) (κ : GSem nD τ sig → ℕ) : sProp 𝕄 := iprop(inv X κ ∗ bigSep barCells fun g => reached ER g 0)
instance records_persistent (X : Dev nD → S128x4096.Idx → Elt F .fp8e4m3) (κ : GSem nD τ sig → ℕ) : BI.Persistent (records X κ) := by unfold records; infer_instance

theorem reached_at (c : Dev nD) : (bigSep barCells fun g => (reached ER g 0 : sProp 𝕄)) ⊢ reached ER (barCell c) 0 :=
  bigSep_elim (Finset.mem_map_of_mem barEmb (Finset.mem_univ c))

/-- What is dealt to one device. -/
def share (c : Dev nD) : sProp 𝕄 :=
  iprop(atPos ER (barCell c) 0 ∅ 0 ∗ (pairs (fun g => openTok ER g) true c ∗ pairs (fun g => openTok ER g) false c)
    ∗ ((dutyTok ER (barCell (back true c)) 0 true ∗ dutyTok ER (barCell (back false c)) 0 false) ∗ (hands true c ∗ hands false c)))

/-- What a device has from launch besides. -/
def bundle (m : (ℓ : Loc nD τ sig) → Buf (Elt F) ℓ) (c : Dev nD) : sProp 𝕄 :=
  iprop(StableHlo.held (c : Thread nD τ) (Pipeline.ucRefs τ sig) (V0 m c)
    ∗ (cred (tallyAt (barCell c) () 2) ∗ (bigSep Finset.univ fun h : Fin (len true) => cred (tallyAt (rcvCell true c h) () N))
      ∗ bigSep Finset.univ fun h : Fin (len false) => cred (tallyAt (rcvCell false c h) () N))
    ∗ owes (c : Thread nD τ) (O₀ c) ∅ ∗ ∃ r, prngReg c r)

theorem start_intro (m : (ℓ : Loc nD τ sig) → Buf (Elt F) ℓ) (κ : GSem nD τ sig → ℕ) (c : Dev nD) : iprop(records (chunk V) κ ∗ (share c ∗ bundle m c))
    ⊢ (iprop(StableHlo.held (c : Thread nD τ) (Pipeline.ucRefs τ sig) (V0 m c) ∗ R V c) : sProp 𝕄) := by
  unfold records share bundle R Tk gate purse hands lore
  iintro ⟨⟨HI, #Hr⟩, ⟨Hat, ⟨HoR, HoL⟩, ⟨⟨Ht1, Ht2⟩, HhR, HhL⟩⟩, Hh, ⟨Hc, HcR, HcL⟩, HO, Hp⟩
  isplitl [Hh]; · iexact Hh
  isplitr [HO Hp]
  · isplitl [HI]
    · iexists κ
      iexists (inv (chunk V) κ)
      isplitr; · ipureintro; exact ⟨inferInstance, knows_inv _ κ⟩
      iexact HI
    isplitl [Hat Hc Ht1 Ht2]
    · isplitl [Hat]; · iexact Hat
      isplitl [Hc]; · iexact Hc
      isplitl [Ht1]
      · isplitl [Ht1]; · iexact Ht1
        iapply (reached_at (F := F) (back true c)); iexact Hr
      isplitl [Ht2]; · iexact Ht2
      iapply (reached_at (F := F) (back false c)); iexact Hr
    isplitl [HoR HoL]
    · isplitl [HoR]; · iexact HoR
      iexact HoL
    isplitl [HhR HcR]
    · isplitl [HhR]; · iexact HhR
      iexact HcR
    isplitl [HhL]; · iexact HhL
    iexact HcL
  isplitl [Hp]; · iexact Hp
  iexists ∅
  iexact HO

theorem unscoped_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

end Cert.KernelIdeal.Ring

end
-- ==== Proof.Run.lean ====
/-
The run: from any memory every device ends with its own output and the counters at zero.
-/
module

public import proofs.«01_k».proof.Proof.Launch

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Seg HostSeg RegionSeg)

variable (V : Dev nD → Valuation τ sig (Elt F))
variable (m : (ℓ : Loc nD τ sig) → Buf (Elt F) ℓ) (ρ : Dev nD → PrngReg)

theorem opens_eq : bigSep ownCells (fun g => (openTok ER g : sProp 𝕄))
    = bigSep Finset.univ fun c : Dev nD => iprop(pairs (fun g => openTok ER g) true c ∗ pairs (fun g => openTok ER g) false c) := by
  unfold ownCells
  rw [bigSep_map, bigSep_univ_prod]
  exact bigSep_congr fun c _ => own_pairs (fun g => openTok ER g) c

/-- Every device's start out of what the launch supplies: the invariants are made here, once, and every token is handed to the
    device that spends it. -/
theorem deal : iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (fun c : Dev nD => iprop(StableHlo.held (c : Thread nD τ) (Pipeline.ucRefs τ sig) (V0 m c) ∗ R V c)) : sProp 𝕄) := by
  have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show (unscopedBufs c (fun b => m ((c : Thread nD τ).loc b)) : sProp 𝕄) = StableHlo.held (c : Thread nD τ) (Pipeline.ucRefs τ sig) (V0 m c)
        from Pipeline.unscopedBufs_held (Ix := Unit) (Name := ℕ) (U := UU) (Lvl := ℕ) c (V0 m c), unscoped_eq]
    unfold bundle
    iintro ⟨Hh, Hv, HO, Hcr, Hp, HG⟩
    ihave Hc := (creds (F := F) c) $$ Hcr
    isplitr [Hv HG]
    · isplitl [Hh]; · iexact Hh
      isplitl [Hc]; · iexact Hc
      isplitl [HO]; · iexact HO
      iexists (ρ c); iexact Hp
    isplitl [Hv]; · iexact Hv
    iexact HG
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop((bigSep Finset.univ fun c : Dev nD => bundle m c) ∗ (bigSep Finset.univ fun c : Dev nD => semVal (barCell c) 0) ∗ bigSep Finset.univ G) : sProp 𝕄) := by
    rw [← bigSep_sep', ← bigSep_sep']
    exact bigSep_mono fun c _ => hone c
  have hval : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hpos : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hshare : iprop((bigSep Finset.univ fun c : Dev nD => (atPos ER (barCell c) 0 ∅ 0 : sProp 𝕄))
        ∗ (bigSep Finset.univ fun c : Dev nD => iprop(pairs (fun g => openTok ER g) true c ∗ pairs (fun g => openTok ER g) false c))
        ∗ bigSep Finset.univ fun c : Dev nD => iprop((dutyTok ER (barCell (back true c)) 0 true ∗ dutyTok ER (barCell (back false c)) 0 false) ∗ (hands true c ∗ hands false c)))
      ⊢ bigSep Finset.univ fun c : Dev nD => share c := by
    rw [← bigSep_sep', ← bigSep_sep']
    exact .rfl
  iintro ⟨H, -⟩
  ihave H1 := hall $$ H
  icases H1 with ⟨HB, Hv, HG⟩
  ihave Hu := (show bigSep Finset.univ (G (F := F)) ⊢ BI.own (ER (launchOf barCells ownCells allToks)) from
    Entails.of_eq (bigSep_atFirst (F := F) (BI.own (ER (launchOf barCells ownCells allToks))))) $$ HG
  imod (Rounds.fund_launch ER (ringRd (chunk V)) cells_disjoint (fun g _ h => h) allToks) $$ [Hv Hu] with ⟨%κ, -, #Hinv, #Hr, Hat, Hopen, Htok⟩
  · isplitl [Hv]
    · iapply hval $$ Hv
    · iexact Hu
  imodintro
  iapply (bigSep_with_persistent (R := records (chunk V) κ) (Φ := fun c : Dev nD => iprop(share c ∗ bundle m c)) fun c _ => start_intro V m κ c)
  isplitr
  · unfold records inv
    isplitr; · iexact Hinv
    iexact Hr
  iapply (Entails.of_eq (bigSep_sep' Finset.univ (fun c : Dev nD => share (F := F) c) (fun c : Dev nD => bundle m c)).symm)
  isplitr [HB]
  · iapply hshare
    isplitl [Hat]; · iapply hpos $$ Hat
    isplitl [Hopen]
    · iapply (Entails.of_eq (opens_eq (F := F))) $$ Hopen
    iapply (Entails.of_eq (toks_around (F := F)))
    iapply (Entails.of_eq (toks_eq (F := F))) $$ Htok
  · iexact HB

theorem only_bar : ∀ sm : SemLoc sig, sm.isScoped .tc = false → sm = .reg barS := by decide

set_option backward.isDefEq.respectTransparency.types false in
theorem run_main (hV : Tables fun c => V9 m c) : θ_run defs (onTc (τ := τ) (Cert.KernelIdeal.main (F := F))) ⟨m, fun _ => 0, ρ⟩
    (fun r => (∀ c : Dev nD, r.2.mem ((c.tc : Thread nD τ).loc main_v50) = total (fun c => V9 m c) c
        ∧ r.2.mem ((c.tc : Thread nD τ).loc main_arg0) = V9 m c main_arg0
        ∧ r.2.mem ((c.tc : Thread nD τ).loc main_arg1) = V9 m c main_arg1
        ∧ r.2.mem ((c.tc : Thread nD τ).loc main_arg2) = V9 m c main_arg2
        ∧ r.2.mem ((c.tc : Thread nD τ).loc main_arg3) = V9 m c main_arg3) ∧ r.2.sem = fun _ => 0) := by
  let V : Dev nD → Valuation τ sig (Elt F) := fun c => V9 m c
  refine Pipeline.θ_run_regions_kit_dev_sems (pcfgs (F := F)) adm (pdats V) () cellOf_inj EP defs₀ 𝒱₀ L lv m ρ Cert.KernelIdeal.main
    (segs m 𝒱₀ L lv (fun _ c => R V c) () (pdats V) (reg V hV))
    (fun c Q => by
      rewrite [main_chain c, Seg.run_eq_chain,
        show (segs m 𝒱₀ L lv (fun _ c => R V c) () (pdats V) (reg V hV) c).map Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, Prog.lift (.customCall (Pipeline.entry 0) ())] from rfl]
      dsimp (config := { failIfUnchanged := false }) only
      exact .rfl)
    (fun c => by simp only [segs, Seg.pipes_host, Seg.pipes_region, Seg.pipes_nil]; decide) O₀ L_of_ne G u₀ fund
    (T₀ := fun c => iprop(StableHlo.held (c : Thread nD τ) (Pipeline.ucRefs τ sig) (V0 m c) ∗ R V c))
    (Tₙ := fun c => iprop(StableHlo.held (c : Thread nD τ) (Pipeline.ucRefs τ sig) (W' V c) ∗ semVal (barCell c) 0))
    (hch := fun c => ⟨.rfl, .rfl, .rfl, .rfl, .rfl, .rfl, .rfl, .rfl, .rfl, reg_pre V hV c, reg_post V hV c⟩)
    (hinit := deal V m ρ)
    (QY := fun c s => (s.mem ((c.tc : Thread nD τ).loc main_v50) = total V c
        ∧ s.mem ((c.tc : Thread nD τ).loc main_arg0) = V c main_arg0
        ∧ s.mem ((c.tc : Thread nD τ).loc main_arg1) = V c main_arg1
        ∧ s.mem ((c.tc : Thread nD τ).loc main_arg2) = V c main_arg2
        ∧ s.mem ((c.tc : Thread nD τ).loc main_arg3) = V c main_arg3) ∧ s.sem (barCell c) = 0)
    (hfin := fun c s' => ?_)
    (hQ := fun s h hs => ⟨fun c => (h c).1, sem_eq_zero hs fun c sm hsm => by
        obtain rfl := only_bar sm hsm
        exact (h c).2⟩)
  unfold StableHlo.held
  iintro ⟨⟨Hh, Hb⟩, HSI⟩
  icombine HSI Hb gives %hb
  ihave Hr := (pointsTo_read_all (Pipeline.ucRefs τ sig) (fun b => ((c : Thread nD τ).1, b)) (W' V c) s') $$ [Hh HSI]
  · isplitl [Hh] <;> iassumption
  icases Hr with ⟨%h, HSI⟩
  imodintro
  isplitr
  · ipureintro
    exact ⟨⟨(h (Proc.devRef .tc main_v50) (Finset.mem_filter.mpr ⟨StableHlo.devRef_mem_tcRefs main_v50, by decide⟩)).trans (W'_result V c),
      (h (Proc.devRef .tc main_arg0) (Finset.mem_filter.mpr ⟨StableHlo.devRef_mem_tcRefs main_arg0, by decide⟩)).trans (W'_other V c main_arg0 (by decide)),
      (h (Proc.devRef .tc main_arg1) (Finset.mem_filter.mpr ⟨StableHlo.devRef_mem_tcRefs main_arg1, by decide⟩)).trans (W'_other V c main_arg1 (by decide)),
      (h (Proc.devRef .tc main_arg2) (Finset.mem_filter.mpr ⟨StableHlo.devRef_mem_tcRefs main_arg2, by decide⟩)).trans (W'_other V c main_arg2 (by decide)),
      (h (Proc.devRef .tc main_arg3) (Finset.mem_filter.mpr ⟨StableHlo.devRef_mem_tcRefs main_arg3, by decide⟩)).trans (W'_other V c main_arg3 (by decide))⟩,
      by simpa using hb⟩
  iexact HSI

end Cert.KernelIdeal.Ring

end
-- ==== Proof.Words.lean ====
/-
The host's tables: what the integer operations before the region leave, on every device.
-/
module

public import proofs.«01_k».proof.Proof.Run
public import Idealize.ShloMosaic.Lib.StableHlo.RunRead

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The words -/

/-- The remainder with the sign of the divisor, as the host works it out. -/
def remW (x n : BitVec 32) : BitVec 32 :=
  let q := Scalar.select (IntOp.cmpi .eq n 0#32) 1#32 n
  let r := IntOp.remsi .host x q
  Scalar.select (IntOp.andi (IntOp.cmpi .ne (IntOp.cmpi .slt r 0#32) (IntOp.cmpi .slt q 0#32)) (IntOp.cmpi .ne r 0#32)) (IntOp.addi r q) r

/-- An index with a negative one counted from the end. -/
def wrapW (x : BitVec 32) : BitVec 32 := Scalar.select (IntOp.cmpi .slt x 0#32) (IntOp.addi x 32#32) x

/-- The device a word of the host names, divided into one axis. -/
def ownW (d : BitVec 32) : BitVec 32 := wrapW (IntOp.remui .host (IntOp.divui .host d 1#32) 32#32)

abbrev tab0 : S32.Idx → BitVec 32 := fun i => lit0 (S32.rowMajor i)
abbrev tab1 : S32.Idx → BitVec 32 := fun i => lit1 (S32.rowMajor i)

/-- The index of an entry. -/
def e32 (k : Fin 32) : S32.Idx := fun a => match a with | ⟨0, _⟩ => k

theorem tab0_at (k : Fin 32) : tab0 (e32 k) = Dev.word (cyc k) :=
  (congrArg lit0 (Fin.ext (Shape.rowMajor_val_one (d := ![32]) (e32 k)))).trans ((by decide +kernel : ∀ k : Fin 32, lit0 k = Dev.word (cyc k)) k)
theorem tab1_at (k : Fin 32) : tab1 (e32 k) = BitVec.ofNat 32 (pos k).val :=
  (congrArg lit1 (Fin.ext (Shape.rowMajor_val_one (d := ![32]) (e32 k)))).trans ((by decide +kernel : ∀ k : Fin 32, lit1 k = BitVec.ofNat 32 (pos k).val) k)

theorem clamp_at : ∀ k : Fin 32, (min (max (BitVec.ofNat 32 k.val).toInt 0) ((32 - 1 : ℕ) : Int)).toNat = k.val := by decide +kernel

theorem slice_at (t : S32.Idx → BitVec 32) (k : Fin 32) (i : S1.Idx) (h) : Host.dynamicSlice S1 t (fun _ => (BitVec.ofNat 32 k.val).toInt) h i = t (e32 k) := by
  unfold Host.dynamicSlice extractStridedSlice
  refine congrArg t (funext fun a => Fin.ext ?_)
  obtain rfl : a = (0 : Fin 1) := Subsingleton.elim _ _
  have hi : ((i 0 : Fin 1)).val = 0 := Nat.lt_one_iff.mp (i 0).isLt
  exact (congrArg₂ (· + ·) (clamp_at k) hi).trans (Nat.add_zero _)

theorem slice_one (t : S32.Idx → BitVec 32) (u : Fin 1 → S_.Idx → BitVec 32) (k : Fin 32) (hu : u 0 (Shape.Idx.first h_S_) = BitVec.ofNat 32 k.val) (h) (i : S1.Idx) :
    Host.dynamicSlice S1 t (fun j => (u j (Shape.Idx.first h_S_)).toInt) h i = t (e32 k) := by
  have e : (fun j : Fin 1 => (u j (Shape.Idx.first h_S_)).toInt) = fun _ => (BitVec.ofNat 32 k.val).toInt :=
    funext fun j => by rw [Subsingleton.elim j 0, hu]
  rw [← slice_at t k i h]
  exact congrArg (fun g => Host.dynamicSlice S1 t g h i) e

theorem clamp_nat : ∀ k : Fin 32, min (BitVec.ofNat 32 k.val).toInt.toNat 31 + 0 + 0 = k.val := by decide +kernel

theorem gather_right (t : S32.Idx → BitVec 32) (f : Fin 16 → Fin 32) (idx : S16x1.Idx → BitVec 32) (hf : ∀ i, idx i = BitVec.ofNat 32 (f (i 0)).val) (j : S16.Idx) :
    Host.gather gather_S32_S16x1_S16_n_0_n_n_0_1_1 t idx j = t (e32 (f (j 0))) := by
  unfold Host.gather
  refine congrArg t (funext fun a => Fin.ext ?_)
  obtain rfl : a = (0 : Fin 1) := Subsingleton.elim _ _
  show min (idx _).toInt.toNat 31 + 0 + 0 = _
  rw [hf]
  exact clamp_nat (f (j 0))

theorem gather_left (t : S32.Idx → BitVec 32) (f : Fin 15 → Fin 32) (idx : S15x1.Idx → BitVec 32) (hf : ∀ i, idx i = BitVec.ofNat 32 (f (i 0)).val) (j : S15.Idx) :
    Host.gather gather_S32_S15x1_S15_n_0_n_n_0_1_1 t idx j = t (e32 (f (j 0))) := by
  unfold Host.gather
  refine congrArg t (funext fun a => Fin.ext ?_)
  obtain rfl : a = (0 : Fin 1) := Subsingleton.elim _ _
  show min (idx _).toInt.toNat 31 + 0 + 0 = _
  rw [hf]
  exact clamp_nat (f (j 0))

theorem own_word : ∀ c : Fin 32, ownW (BitVec.ofNat 32 c.val) = BitVec.ofNat 32 c.val := by decide +kernel
theorem wrap_word : ∀ c : Fin 32, wrapW (BitVec.ofNat 32 c.val) = BitVec.ofNat 32 c.val := by decide +kernel

theorem next_word : ∀ p : Fin 32, remW (BitVec.ofNat 32 p.val + 1#32) 32#32 = BitVec.ofNat 32 (p + 1).val := by decide +kernel
theorem prev_word : ∀ p : Fin 32, remW (BitVec.ofNat 32 p.val - 1#32) 32#32 = BitVec.ofNat 32 (p - 1).val := by decide +kernel

/-- The positions a device's chunks from the left start at, and those from the right. -/
def posR (p : Fin 32) (j : Fin 16) : Fin 32 := p - 1 - j.castLE (by decide)
def posL (p : Fin 32) (j : Fin 15) : Fin 32 := p + 1 + j.castLE (by decide)

theorem right_word : ∀ (p : Fin 32) (j : Fin 16), remW (BitVec.ofNat 32 p.val - 1#32 - BitVec.ofNat 32 j.val) 32#32 = BitVec.ofNat 32 (posR p j).val := by decide +kernel
theorem left_word : ∀ (p : Fin 32) (j : Fin 15), remW (BitVec.ofNat 32 p.val + 1#32 + BitVec.ofNat 32 j.val) 32#32 = BitVec.ofNat 32 (posL p j).val := by decide +kernel
theorem right_org : ∀ (c : Dev nD) (j : Fin 16), cyc (posR (pos c) j) = org true c (j.val + 1) := by decide +kernel
theorem left_org : ∀ (c : Dev nD) (j : Fin 15), cyc (posL (pos c) j) = org false c (j.val + 1) := by decide +kernel

/-! ## The stretches of host operations -/

variable (V : Valuation τ sig (Elt F))

theorem start_v9 (c : Dev nD) : StableHlo.after (hostOps0 c) V (Proc.devRef .tc main_v9) = (fun _ => BitVec.ofNat 32 (pos c).val : S_.Idx → BitVec 32) := by
  after_reads_simp [StableHlo.unaryIndexed_result_read, StableHlo.indexContents_cons, StableHlo.indexContents_empty]
  simp only [cast_eq, shapeCast]
  funext i
  refine (slice_one tab1 _ c ?_ sliceFits_S32_S1 _).trans (tab1_at c)
  exact own_word c
theorem start_c (c : Dev nD) : StableHlo.after (hostOps0 c) V (Proc.devRef .tc main_c) = tab0 := by
  after_reads_simp
  rfl
theorem start_v10 (c : Dev nD) : StableHlo.after (hostOps0 c) V (Proc.devRef .tc main_v10) = (fun _ => BitVec.ofNat 32 (pos c).val + 1#32 : S_.Idx → BitVec 32) := by
  have h : StableHlo.after (hostOps0 c) V (Proc.devRef .tc main_v10) = addi (StableHlo.after (hostOps0 c) V (Proc.devRef .tc main_v9) : S_.Idx → BitVec 32) (constantI S_ 32 1#32) := by after_reads_simp
  rw [h, start_v9]
  rfl
theorem start_n (c : Dev nD) : StableHlo.after (hostOps0 c) V (Proc.devRef .tc main_c_6) = (fun _ => 32#32 : S_.Idx → BitVec 32) := by
  after_reads_simp
  rfl

theorem rem_v11 (a b : BitVec 32) (ha : V (Proc.devRef .tc main_v10) = (fun _ => a : S_.Idx → BitVec 32)) (hb : V (Proc.devRef .tc main_c_6) = (fun _ => b : S_.Idx → BitVec 32)) :
    StableHlo.after hostOps0_1 V (Proc.devRef .tc main_v11) = (fun _ => remW a b : S_.Idx → BitVec 32) := by
  after_reads_simp
  rw [ha, hb]
  simp only [StableHlo.TRef.ofBuf_toBuf, id]
  simp only [StableHlo.TRef.ofBuf, StableHlo.TRef.toBuf, cast_eq]
  unfold remW
  rfl

theorem rem_v19 (a b : BitVec 32) (ha : V (Proc.devRef .tc main_v18) = (fun _ => a : S_.Idx → BitVec 32)) (hb : V (Proc.devRef .tc main_c_10) = (fun _ => b : S_.Idx → BitVec 32)) :
    StableHlo.after hostOps0_3 V (Proc.devRef .tc main_v19) = (fun _ => remW a b : S_.Idx → BitVec 32) := by
  after_reads_simp
  rw [ha, hb]
  simp only [StableHlo.TRef.ofBuf_toBuf, id]
  simp only [StableHlo.TRef.ofBuf, StableHlo.TRef.toBuf, cast_eq]
  unfold remW
  rfl

theorem pick_v17 (p : Fin 32) (hp : V (Proc.devRef .tc main_v11) = (fun _ => BitVec.ofNat 32 p.val : S_.Idx → BitVec 32)) (ht : V (Proc.devRef .tc main_c) = tab0) :
    StableHlo.after hostOps0_2 V (Proc.devRef .tc main_v17) = (fun _ => Dev.word (cyc p) : S1.Idx → BitVec 32) := by
  after_reads_simp [StableHlo.unaryIndexed_result_read, StableHlo.indexContents_cons, StableHlo.indexContents_empty]
  rw [hp, ht]
  simp only [cast_eq, shapeCast]
  funext i
  rw [slice_one tab0 _ p (wrap_word p)]
  exact tab0_at p

theorem pick_v25 (p : Fin 32) (hp : V (Proc.devRef .tc main_v19) = (fun _ => BitVec.ofNat 32 p.val : S_.Idx → BitVec 32)) (ht : V (Proc.devRef .tc main_c) = tab0) :
    StableHlo.after hostOps0_4 V (Proc.devRef .tc main_v25) = (fun _ => Dev.word (cyc p) : S1.Idx → BitVec 32) := by
  after_reads_simp [StableHlo.unaryIndexed_result_read, StableHlo.indexContents_cons, StableHlo.indexContents_empty]
  rw [hp, ht]
  simp only [cast_eq, shapeCast]
  funext i
  rw [slice_one tab0 _ p (wrap_word p)]
  exact tab0_at p

theorem less_v18 (a : BitVec 32) (ha : V (Proc.devRef .tc main_v9) = (fun _ => a : S_.Idx → BitVec 32)) : StableHlo.after hostOps0_2 V (Proc.devRef .tc main_v18) = (fun _ => a - 1#32 : S_.Idx → BitVec 32) := by
  after_reads_simp
  rw [ha]
  rfl
theorem less_n : StableHlo.after hostOps0_2 V (Proc.devRef .tc main_c_10) = (fun _ => 32#32 : S_.Idx → BitVec 32) := by
  after_reads_simp
  rfl

theorem far_v29 (a : BitVec 32) (ha : V (Proc.devRef .tc main_v9) = (fun _ => a : S_.Idx → BitVec 32)) :
    StableHlo.after hostOps0_4 V (Proc.devRef .tc main_v29) = (fun i => a - 1#32 - BitVec.ofNat 32 (i 0).val : S16.Idx → BitVec 32) := by
  after_reads_simp
  rw [ha]
  rfl
theorem far_v29_n : StableHlo.after hostOps0_4 V (Proc.devRef .tc main_c_14) = (fun _ => 32#32 : S_.Idx → BitVec 32) := by
  after_reads_simp
  rfl

theorem far_v41 (a : BitVec 32) (ha : V (Proc.devRef .tc main_v9) = (fun _ => a : S_.Idx → BitVec 32)) :
    StableHlo.after hostOps0_6 V (Proc.devRef .tc main_v41) = (fun i => a + 1#32 + BitVec.ofNat 32 (i 0).val : S15.Idx → BitVec 32) := by
  after_reads_simp
  rw [ha]
  rfl
theorem far_v41_n : StableHlo.after hostOps0_6 V (Proc.devRef .tc main_c_18) = (fun _ => 32#32 : S_.Idx → BitVec 32) := by
  after_reads_simp
  rfl

theorem rem_v30 (a : S16.Idx → BitVec 32) (b : BitVec 32) (ha : V (Proc.devRef .tc main_v29) = a) (hb : V (Proc.devRef .tc main_c_14) = (fun _ => b : S_.Idx → BitVec 32)) :
    StableHlo.after hostOps0_5 V (Proc.devRef .tc main_v30) = (fun i => remW (a i) b : S16.Idx → BitVec 32) := by
  after_reads_simp
  rw [ha, hb]
  simp only [StableHlo.TRef.ofBuf_toBuf, id]
  simp only [StableHlo.TRef.ofBuf, StableHlo.TRef.toBuf, cast_eq]
  unfold remW
  rfl

theorem rem_v42 (a : S15.Idx → BitVec 32) (b : BitVec 32) (ha : V (Proc.devRef .tc main_v41) = a) (hb : V (Proc.devRef .tc main_c_18) = (fun _ => b : S_.Idx → BitVec 32)) :
    StableHlo.after hostOps0_7 V (Proc.devRef .tc main_v42) = (fun i => remW (a i) b : S15.Idx → BitVec 32) := by
  after_reads_simp
  rw [ha, hb]
  simp only [StableHlo.TRef.ofBuf_toBuf, id]
  simp only [StableHlo.TRef.ofBuf, StableHlo.TRef.toBuf, cast_eq]
  unfold remW
  rfl

theorem pick_v37 (f : Fin 16 → Fin 32) (hp : V (Proc.devRef .tc main_v30) = (fun i => BitVec.ofNat 32 (f (i 0)).val : S16.Idx → BitVec 32)) (ht : V (Proc.devRef .tc main_c) = tab0) :
    StableHlo.after hostOps0_6 V (Proc.devRef .tc main_v37) = (fun i => Dev.word (cyc (f (i 0))) : S16.Idx → BitVec 32) := by
  after_reads_simp
  rw [hp, ht]
  funext i
  refine (gather_right tab0 f _ (fun j => ?_) i).trans (tab0_at _)
  exact wrap_word (f (j 0))

theorem pick_v49 (f : Fin 15 → Fin 32) (hp : V (Proc.devRef .tc main_v42) = (fun i => BitVec.ofNat 32 (f (i 0)).val : S15.Idx → BitVec 32)) (ht : V (Proc.devRef .tc main_c) = tab0) :
    StableHlo.after hostOps0_8 V (Proc.devRef .tc main_v49) = (fun i => Dev.word (cyc (f (i 0))) : S15.Idx → BitVec 32) := by
  after_reads_simp
  rw [hp, ht]
  funext i
  refine (gather_left tab0 f _ (fun j => ?_) i).trans (tab0_at _)
  exact wrap_word (f (j 0))

/-! ## The tables -/

variable (m : (ℓ : Loc nD τ sig) → Buf (Elt F) ℓ)

theorem at_c_2 (c : Dev nD) : V2 m c (Proc.devRef .tc main_c) = tab0 := (V2_of m c main_c (by decide)).trans (start_c _ c)
theorem at_c_4 (c : Dev nD) : V4 m c (Proc.devRef .tc main_c) = tab0 := (V4_of m c main_c (by decide)).trans ((V3_of m c main_c (by decide)).trans (at_c_2 m c))
theorem at_c_6 (c : Dev nD) : V6 m c (Proc.devRef .tc main_c) = tab0 := (V6_of m c main_c (by decide)).trans ((V5_of m c main_c (by decide)).trans (at_c_4 m c))
theorem at_c_8 (c : Dev nD) : V8 m c (Proc.devRef .tc main_c) = tab0 := (V8_of m c main_c (by decide)).trans ((V7_of m c main_c (by decide)).trans (at_c_6 m c))
theorem at_v9_2 (c : Dev nD) : V2 m c (Proc.devRef .tc main_v9) = (fun _ => BitVec.ofNat 32 (pos c).val : S_.Idx → BitVec 32) := (V2_of m c main_v9 (by decide)).trans (start_v9 _ c)
theorem at_v9_4 (c : Dev nD) : V4 m c (Proc.devRef .tc main_v9) = (fun _ => BitVec.ofNat 32 (pos c).val : S_.Idx → BitVec 32) := (V4_of m c main_v9 (by decide)).trans ((V3_of m c main_v9 (by decide)).trans (at_v9_2 m c))
theorem at_v9_6 (c : Dev nD) : V6 m c (Proc.devRef .tc main_v9) = (fun _ => BitVec.ofNat 32 (pos c).val : S_.Idx → BitVec 32) := (V6_of m c main_v9 (by decide)).trans ((V5_of m c main_v9 (by decide)).trans (at_v9_4 m c))

theorem at_v11 (c : Dev nD) : V2 m c (Proc.devRef .tc main_v11) = (fun _ => BitVec.ofNat 32 (pos c + 1).val : S_.Idx → BitVec 32) :=
  (rem_v11 _ _ _ (start_v10 _ c) (start_n _ c)).trans (funext fun _ => next_word (pos c))
theorem at_v19 (c : Dev nD) : V4 m c (Proc.devRef .tc main_v19) = (fun _ => BitVec.ofNat 32 (pos c - 1).val : S_.Idx → BitVec 32) :=
  (rem_v19 _ _ _ (less_v18 _ _ (at_v9_2 m c)) (less_n _)).trans (funext fun _ => prev_word (pos c))
theorem at_v30 (c : Dev nD) : V6 m c (Proc.devRef .tc main_v30) = (fun i => BitVec.ofNat 32 (posR (pos c) (i 0)).val : S16.Idx → BitVec 32) :=
  (rem_v30 _ _ _ (far_v29 _ _ (at_v9_4 m c)) (far_v29_n _)).trans (funext fun i => right_word (pos c) (i 0))
theorem at_v42 (c : Dev nD) : V8 m c (Proc.devRef .tc main_v42) = (fun i => BitVec.ofNat 32 (posL (pos c) (i 0)).val : S15.Idx → BitVec 32) :=
  (rem_v42 _ _ _ (far_v41 _ _ (at_v9_6 m c)) (far_v41_n _)).trans (funext fun i => left_word (pos c) (i 0))

/-- The host's tables hold the cycle's neighbours and the chunks' origins, whatever the memory is at launch. -/
theorem tables : Tables fun c => V9 m c where
  nxt c := (V9_of m c main_v17 (by decide)).trans <| (V8_of m c main_v17 (by decide)).trans <| (V7_of m c main_v17 (by decide)).trans <| (V6_of m c main_v17 (by decide)).trans <| (V5_of m c main_v17 (by decide)).trans <| (V4_of m c main_v17 (by decide)).trans <| (pick_v17 _ _ (at_v11 m c) (at_c_2 m c))
  prv c := (V9_of m c main_v25 (by decide)).trans <| (V8_of m c main_v25 (by decide)).trans <| (V7_of m c main_v25 (by decide)).trans <| (V6_of m c main_v25 (by decide)).trans <| (pick_v25 _ _ (at_v19 m c) (at_c_4 m c))
  right c := (V9_of m c main_v37 (by decide)).trans <| (V8_of m c main_v37 (by decide)).trans <| ((pick_v37 _ _ (at_v30 m c) (at_c_6 m c)).trans (funext fun i => congrArg Dev.word (right_org c (i 0))))
  left c := (pick_v49 _ _ (at_v42 m c) (at_c_8 m c)).trans (funext fun i => congrArg Dev.word (left_org c (i 0)))

theorem at_arg0 (c : Dev nD) : V9 m c main_arg0 = m ((c.tc : Thread nD τ).loc main_arg0) :=
  (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem at_arg1 (c : Dev nD) : V9 m c main_arg1 = m ((c.tc : Thread nD τ).loc main_arg1) :=
  (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem at_arg2 (c : Dev nD) : V9 m c main_arg2 = m ((c.tc : Thread nD τ).loc main_arg2) :=
  (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem at_arg3 (c : Dev nD) : V9 m c main_arg3 = m ((c.tc : Thread nD τ).loc main_arg3) :=
  (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

end Cert.KernelIdeal.Ring

end
-- ==== Proof.Frames.lean ====
/-
The frames: the run ends, the arguments are as they were and every counter reads zero.
-/
module

public import proofs.«01_k».proof.Defs
public import proofs.«01_k».proof.Proof.Gen.Kernel
public import proofs.«01_k».proof.Proof.Words

@[expose] public section

namespace Cert.Product

open Idealize.ShloMosaic Idealize.ShloMosaic.TcCoe Idealize.SL.Sem
open Cert.KernelIdeal.Ring (run_main tables at_arg0 at_arg1 at_arg2 at_arg3)

theorem frame_ideal : Cert.quiescent_KernelIdeal := fun m ρ _ =>
  (θ_run Cert.KernelIdeal.defs _ _).mono (fun _ h => ⟨fun c => ⟨(h.1 c).2.1.trans (at_arg0 m c), (h.1 c).2.2.1.trans (at_arg1 m c),
    (h.1 c).2.2.2.1.trans (at_arg2 m c), (h.1 c).2.2.2.2.trans (at_arg3 m c)⟩, h.2⟩) (run_main m ρ (tables m))

/-- The frame of the idealized kernel's text at the machine's floats. -/
def frameText : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two programs have one text. -/
theorem same_text : Cert.quiescent_Kernel = frameText := by sl_kernel_rfl

theorem frame_text : frameText := fun m ρ _ =>
  (θ_run Cert.KernelIdeal.defs _ _).mono (fun _ h => ⟨fun c => ⟨(h.1 c).2.1.trans (at_arg0 m c), (h.1 c).2.2.1.trans (at_arg1 m c),
    (h.1 c).2.2.2.1.trans (at_arg2 m c), (h.1 c).2.2.2.2.trans (at_arg3 m c)⟩, h.2⟩) (run_main m ρ (tables m))

theorem frame_kernel : Cert.quiescent_Kernel := same_text ▸ frame_text

end Cert.Product

end
-- ==== Proof.Ref.lean ====
/-
What the reference leaves: the whole product of its two matrices, scaled.
-/
module

public import proofs.«01_k».proof.Proof.Gen.ReferenceIdeal.Value
public import Idealize.ShloMosaic.Lib.VecWindow

@[expose] public section

namespace Cert.ReferenceIdeal.Whole

open Idealize.ShloMosaic Idealize.ShloMosaic.TcCoe Idealize.SL.Sem
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- The one index of a scale. -/
def one : S1.Idx := Shape.Idx.first (numel1_S1.symm ▸ Nat.one_pos)

/-- The body stores the product of the two matrices it reads, scaled by the product of the two scales. -/
theorem out_eq (c : Dev nD) (arg0 : Memref sig .tc .vmem S4096x4096 .fp8e4m3) (harg0 : arg0.IsWhole) (arg1 : Memref sig .tc .vmem S4096x8192 .fp8e4m3) (harg1 : arg1.IsWhole) (arg2 : Memref sig .tc .smem S1 .f32) (harg2 : arg2.IsWhole) (arg3 : Memref sig .tc .smem S1 .f32) (harg3 : arg3.IsWhole) (arg4 : Memref sig .tc .vmem S4096x8192 .f32) (harg4 : arg4.IsWhole)
    (x0 : Vec F S4096x4096 .fp8e4m3) (x1 : Vec F S4096x8192 .fp8e4m3) (x2 : Vec F S1 .f32) (x3 : Vec F S1 .f32) :
    out0_A_4 c arg0 harg0 arg1 harg1 arg2 harg2 arg3 harg3 arg4 harg4 x0 x1 x2 x3 = k0_pay1 x0 x1 (x2 one) (x3 one) := by
  have e0 := View.readAt_full arg0.view (harg0.unread (Val := Elt F) x0) inb_S4096x4096_S4096x4096_0_0
  have e1 := View.readAt_full arg1.view (harg1.unread (Val := Elt F) x1) inb_S4096x8192_S4096x8192_0_0
  have e2 := View.readAt_full arg2.view (harg2.unread (Val := Elt F) x2) inb_S1_S1_0
  have e3 := View.readAt_full arg3.view (harg3.unread (Val := Elt F) x3) inb_S1_S1_0
  rw [harg0.read_unread] at e0
  rw [harg1.read_unread] at e1
  rw [harg2.read_unread] at e2
  rw [harg3.read_unread] at e3
  refine (View.read_writes_full VO0_4 _ inb_S4096x8192_S4096x8192_0_0 _ []).trans ?_
  rw [e0, e1]
  exact congrArg₂ (k0_pay1 x0 x1) (congrFun e2 one) (congrFun e3 one)

/-- The one block of an array that is not cut reads the array. -/
theorem read_out (t : Fin cfg0.N) (f : S4096x8192.Idx → F .f32) : ((cfg0.win 4).blk t).view.read (Elt F) f = f :=
  funext fun i => congrArg f (funext fun a => Fin.ext (by show 0 * _ + 1 * (i a).val = _; omega))

theorem block0 (c : Dev nD) (t : Fin cfg0.N) : iblk m c 0 t = m ((c : Thread nD τ).loc main_arg0) := by
  rw [← V_main_arg0 m c]
  exact funext fun i => congrArg (V m c main_arg0) (funext fun a => Fin.ext (by show 0 * _ + 1 * (i a).val = _; omega))

theorem block1 (c : Dev nD) (t : Fin cfg0.N) : iblk m c 1 t = m ((c : Thread nD τ).loc main_arg1) := by
  rw [← V_main_arg1 m c]
  exact funext fun i => congrArg (V m c main_arg1) (funext fun a => Fin.ext (by show 0 * _ + 1 * (i a).val = _; omega))

theorem block2 (c : Dev nD) (t : Fin cfg0.N) : iblk m c 2 t = m ((c : Thread nD τ).loc main_arg2) := by
  rw [← V_main_arg2 m c]
  exact funext fun i => congrArg (V m c main_arg2) (funext fun a => Fin.ext (by show 0 * _ + 1 * (i a).val = _; omega))

theorem block3 (c : Dev nD) (t : Fin cfg0.N) : iblk m c 3 t = m ((c : Thread nD τ).loc main_arg3) := by
  rw [← V_main_arg3 m c]
  exact funext fun i => congrArg (V m c main_arg3) (funext fun a => Fin.ext (by show 0 * _ + 1 * (i a).val = _; omega))

/-- The whole result. -/
noncomputable def product (c : Dev nD) : S4096x8192.Idx → F .f32 :=
  k0_pay1 (m ((c : Thread nD τ).loc main_arg0)) (m ((c : Thread nD τ).loc main_arg1)) (m ((c : Thread nD τ).loc main_arg2) one) (m ((c : Thread nD τ).loc main_arg3) one)

/-- The result array after the run. -/
theorem final (c : Dev nD) : (dats m 0 c).arrAt 4 cfg0.N = product m c := by
  have h := (blocks4 m c t0_0 rfl).trans (flushed4_A m c t0_0)
  rw [out_eq, block0, block1, block2, block3] at h
  exact (read_out t0_0 _).symm.trans h

/-- The reference's run. -/
theorem run_ref : θ_run defs (onTc (τ := τ) (main (F := F))) ⟨m, fun _ => 0, ρ⟩ fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.ReferenceIdeal.Whole

end
-- ==== Proof.Value.lean ====
/-
The value claim: the devices' results are the blocks of the whole product.
-/
module

public import proofs.«01_k».proof.Defs
public import proofs.«01_k».proof.Proof.Words
public import proofs.«01_k».proof.Proof.Ref
public import Idealize.ShloMosaic.Lib.MatmulPlain

@[expose] public section

namespace Cert.Product

open Idealize.ShloMosaic Idealize.ShloMosaic.TcCoe Idealize.ShloMosaic.ValueIdx Idealize.SL.Sem
open scoped BigOperators
open Cert.KernelIdeal.Gen (V9)
open Cert.KernelIdeal.Ring (run_main tables at_arg0 at_arg1 at_arg2 at_arg3 total result blockOf inBlock chunk rfac scaleX scaleW)

/-- An entry of a device's block: a row of the chunk with a column of the right factor, scaled. -/
theorem entry_block (sc : Ideal .f32) (a : FVec Ideal ⟨2, ![128, 4096]⟩ .fp8e4m3) (b : FVec Ideal ⟨2, ![4096, 256]⟩ .fp8e4m3) (r : Fin 128) (n : Fin 256) :
    Cert.KernelIdeal.Gen.k0_pay2 sc a b (ix2 r n) = ((∑ k : Fin 4096, a (ix2 r k) * b (ix2 k n) : EReal) * (sc : EReal) : EReal) := by
  have h := Ideal.matmul_plain_apply none a b (constant ⟨2, ![128, 256]⟩ .f32 0x00000000#32) r n
  rw [show (constant (F := Ideal) ⟨2, ![128, 256]⟩ .f32 0x00000000#32 : FVec Ideal ⟨2, ![128, 256]⟩ .f32) (ix2 r n) = (0 : EReal) from Ideal.ofBits_zero_f32, zero_add] at h
  rw [← h]
  unfold Cert.KernelIdeal.Gen.k0_pay2
  simp only [shapeCast_self]
  rfl

/-- An entry of the whole result. -/
theorem entry_whole (s t : Ideal .f32) (a : FVec Ideal ⟨2, ![4096, 4096]⟩ .fp8e4m3) (b : FVec Ideal ⟨2, ![4096, 8192]⟩ .fp8e4m3) (r : Fin 4096) (n : Fin 8192) :
    Cert.ReferenceIdeal.Gen.k0_pay1 (F := Ideal) a b s t (ix2 r n) = ((∑ k : Fin 4096, a (ix2 r k) * b (ix2 k n) : EReal) * (Scalar.mulf s t : Ideal .f32) : EReal) := by
  have h := Ideal.matmul_plain_apply none a b (constant ⟨2, ![4096, 8192]⟩ .f32 0x00000000#32) r n
  rw [show (constant (F := Ideal) ⟨2, ![4096, 8192]⟩ .f32 0x00000000#32 : FVec Ideal ⟨2, ![4096, 8192]⟩ .f32) (ix2 r n) = (0 : EReal) from Ideal.ofBits_zero_f32, zero_add] at h
  rw [← h]
  rfl

/-- Every device's result is its block of columns of the whole product. -/
theorem blocks (X : Dev 32 → FVec Ideal ⟨2, ![128, 4096]⟩ .fp8e4m3) (B : FVec Ideal ⟨2, ![4096, 256]⟩ .fp8e4m3) (s t : Ideal .f32)
    (x : FVec Ideal ⟨2, ![4096, 4096]⟩ .fp8e4m3) (w : FVec Ideal ⟨2, ![4096, 8192]⟩ .fp8e4m3) (c : Fin 32)
    (hX : ∀ d : Fin 32, X d = Layout.block ⟨2, ![128, 4096]⟩ ⟨2, ![4096, 4096]⟩ 0 32 d x)
    (hB : B = Layout.block ⟨2, ![4096, 256]⟩ ⟨2, ![4096, 8192]⟩ 1 32 c w) :
    result X (Cert.KernelIdeal.Gen.k0_pay1 s t) B
      = Layout.block ⟨2, ![4096, 256]⟩ ⟨2, ![4096, 8192]⟩ 1 32 c (Cert.ReferenceIdeal.Gen.k0_pay1 x w s t : (⟨2, ![4096, 8192]⟩ : Shape).Idx → Ideal .f32) := by
  funext i
  have hi0 : (i 0).val < 4096 := (i 0).isLt
  have hi1 : (i 1).val < 256 := (i 1).isLt
  have hc := c.isLt
  have hj : (by decide : Layout.Tiles ⟨2, ![4096, 256]⟩ ⟨2, ![4096, 8192]⟩ 1 32).idx c i = ix2 (⟨(i 0).val, hi0⟩ : Fin 4096) (⟨c.val * 256 + (i 1).val, by omega⟩ : Fin 8192) := by
    funext a
    match a with
    | ⟨0, _⟩ => rfl
    | ⟨1, _⟩ => rfl
  rw [Layout.block_apply, hj, entry_whole]
  unfold result inBlock
  refine (entry_block _ _ _ _ _).trans ?_
  refine congrArg (fun z : EReal => z * (Scalar.mulf s t : Ideal .f32)) (Finset.sum_congr rfl fun k _ => ?_)
  refine congrArg₂ (fun y z : EReal => y * z) ?_ ?_
  · rw [hX, Layout.block_apply]
    refine congrArg x (funext fun a => ?_)
    match a with
    | ⟨0, _⟩ => exact Fin.ext (by show (i 0).val / 128 * 128 + (i 0).val % 128 = (i 0).val; omega)
    | ⟨1, _⟩ => rfl
  · rw [hB, Layout.block_apply]
    refine congrArg w (funext fun a => ?_)
    match a with
    | ⟨0, _⟩ => rfl
    | ⟨1, _⟩ => rfl

/-- What a device's run leaves, against what the reference's leaves. -/
theorem total_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Fin 32)
    (h0 : ∀ d : Fin 32, chunk (fun c => V9 m c) d = Layout.block ⟨2, ![128, 4096]⟩ ⟨2, ![4096, 4096]⟩ 0 32 d
      (m' (((0 : Dev Cert.ReferenceIdeal.nD).tc : Thread Cert.ReferenceIdeal.nD Cert.ReferenceIdeal.τ).loc Cert.ReferenceIdeal.main_arg0)))
    (h1 : rfac (fun c => V9 m c) c = Layout.block ⟨2, ![4096, 256]⟩ ⟨2, ![4096, 8192]⟩ 1 32 c
      (m' (((0 : Dev Cert.ReferenceIdeal.nD).tc : Thread Cert.ReferenceIdeal.nD Cert.ReferenceIdeal.τ).loc Cert.ReferenceIdeal.main_arg1)))
    (h2 : scaleX (fun c => V9 m c) c = (m' (((0 : Dev Cert.ReferenceIdeal.nD).tc : Thread Cert.ReferenceIdeal.nD Cert.ReferenceIdeal.τ).loc Cert.ReferenceIdeal.main_arg2)
      : Cert.ReferenceIdeal.S1.Idx → Ideal .f32) Cert.ReferenceIdeal.Whole.one)
    (h3 : scaleW (fun c => V9 m c) c = (m' (((0 : Dev Cert.ReferenceIdeal.nD).tc : Thread Cert.ReferenceIdeal.nD Cert.ReferenceIdeal.τ).loc Cert.ReferenceIdeal.main_arg3)
      : Cert.ReferenceIdeal.S1.Idx → Ideal .f32) Cert.ReferenceIdeal.Whole.one) :
    total (fun c => V9 m c) c = Layout.block ⟨2, ![4096, 256]⟩ ⟨2, ![4096, 8192]⟩ 1 32 c (Cert.ReferenceIdeal.Whole.product m' 0) := by
  unfold total
  rw [h2, h3]
  exact blocks _ _ _ _ _ _ c h0 h1

/-- The claim of the values. -/
theorem algebraic : Cert.algebraic_KernelIdeal_ReferenceIdeal := fun m g m' g' _ hm =>
  ⟨Cert.ReferenceIdeal.Whole.product m' 0,
    (θ_run Cert.KernelIdeal.defs _ _).mono (fun _ h c => ⟨(h.1 c).1.trans
        (total_block m m' c (fun d => (at_arg0 m d).trans (hm d).1) ((at_arg1 m c).trans (hm c).2.1)
          (congrFun ((at_arg2 m c).trans (hm c).2.2.1) _) (congrFun ((at_arg3 m c).trans (hm c).2.2.2) _)),
      (h.1 c).2.1.trans (at_arg0 m c), (h.1 c).2.2.1.trans (at_arg1 m c),
      (h.1 c).2.2.2.1.trans (at_arg2 m c), (h.1 c).2.2.2.2.trans (at_arg3 m c)⟩) (run_main m g (tables m)),
    (θ_run Cert.ReferenceIdeal.defs _ _).mono (fun _ h => h 0) (Cert.ReferenceIdeal.Whole.run_ref m' g')⟩

end Cert.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Value
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Product.frame_kernel, Cert.Product.frame_ideal, fun m g _ => Cert.ReferenceIdeal.Gen.frame m g, trivial, Cert.Product.algebraic⟩

end Cert.Proof

end
